-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v219) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x19x512x512 : Shape := ⟨4, ![2, 19, 512, 512]⟩
abbrev S2x512x512 : Shape := ⟨3, ![2, 512, 512]⟩
abbrev S_ : Shape := ⟨0, ![]⟩
abbrev S512x512 : Shape := ⟨2, ![512, 512]⟩
abbrev S1 : Shape := ⟨1, ![1]⟩
abbrev S2 : Shape := ⟨1, ![2]⟩
abbrev S508x508 : Shape := ⟨2, ![508, 508]⟩
abbrev S19x1x1 : Shape := ⟨3, ![19, 1, 1]⟩
abbrev S2x1x512x512 : Shape := ⟨4, ![2, 1, 512, 512]⟩
abbrev S1x1x1 : Shape := ⟨3, ![1, 1, 1]⟩
abbrev S1x1x512x512 : Shape := ⟨4, ![1, 1, 512, 512]⟩
abbrev S1x512x512 : Shape := ⟨3, ![1, 512, 512]⟩
abbrev S512x2 : Shape := ⟨2, ![512, 2]⟩
abbrev S512x510 : Shape := ⟨2, ![512, 510]⟩
abbrev S512x1 : Shape := ⟨2, ![512, 1]⟩
abbrev S512x511 : Shape := ⟨2, ![512, 511]⟩
abbrev S2x512 : Shape := ⟨2, ![2, 512]⟩
abbrev S510x512 : Shape := ⟨2, ![510, 512]⟩
abbrev S1x512 : Shape := ⟨2, ![1, 512]⟩
abbrev S511x512 : Shape := ⟨2, ![511, 512]⟩
abbrev S1x1 : Shape := ⟨2, ![1, 1]⟩

abbrev nBuf : Space → Nat
  | .hbm => 15
  | .vmem => 6
  | .smem => 0
  | _ => 0

abbrev bufTy : (tb : Table) → Fin (tcTables nBuf tb) → BufTy
  | .hbm, ⟨0, _⟩ => ⟨S2x19x512x512, .f32⟩
  | .hbm, ⟨1, _⟩ => ⟨S2x512x512, .i32⟩
  | .hbm, ⟨2, _⟩ => ⟨S_, .bf16⟩
  | .hbm, ⟨3, _⟩ => ⟨S512x512, .bf16⟩
  | .hbm, ⟨4, _⟩ => ⟨S_, .i32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S2, .i32⟩
  | .hbm, ⟨9, _⟩ => ⟨S_, .bf16⟩
  | .hbm, ⟨10, _⟩ => ⟨S508x508, .bf16⟩
  | .hbm, ⟨11, _⟩ => ⟨S512x512, .bf16⟩
  | .hbm, ⟨12, _⟩ => ⟨S19x1x1, .f32⟩
  | .hbm, ⟨13, _⟩ => ⟨S_, .f32⟩
  | .hbm, ⟨14, _⟩ => ⟨S_, .f32⟩
  | .local _ .vmem, ⟨0, _⟩ => ⟨S2x1x512x512, .f32⟩
  | .local _ .vmem, ⟨1, _⟩ => ⟨S2x1x512x512, .f32⟩
  | .local _ .vmem, ⟨2, _⟩ => ⟨S2x512x512, .i32⟩
  | .local _ .vmem, ⟨3, _⟩ => ⟨S512x512, .bf16⟩
  | .local _ .vmem, ⟨4, _⟩ => ⟨S1x1x1, .f32⟩
  | .local _ .vmem, ⟨5, _⟩ => ⟨S1x1x1, .f32⟩
  | _, _ => ⟨S2x19x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![19], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x512x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2x19x512x512 : Shape := ⟨4, ![2, 19, 512, 512]⟩
abbrev S2x512x512 : Shape := ⟨3, ![2, 512, 512]⟩
abbrev S_ : Shape := ⟨0, ![]⟩
abbrev S512x512 : Shape := ⟨2, ![512, 512]⟩
abbrev S1 : Shape := ⟨1, ![1]⟩
abbrev S2 : Shape := ⟨1, ![2]⟩
abbrev S508x508 : Shape := ⟨2, ![508, 508]⟩
abbrev S2x512x512x1 : Shape := ⟨4, ![2, 512, 512, 1]⟩
abbrev S1x1x1x19 : Shape := ⟨4, ![1, 1, 1, 19]⟩
abbrev S2x512x512x19 : Shape := ⟨4, ![2, 512, 512, 19]⟩
abbrev S2x19x1x512 : Shape := ⟨4, ![2, 19, 1, 512]⟩
abbrev S2x19x514x512 : Shape := ⟨4, ![2, 19, 514, 512]⟩
abbrev S2x19x514x1 : Shape := ⟨4, ![2, 19, 514, 1]⟩
abbrev S2x19x514x514 : Shape := ⟨4, ![2, 19, 514, 514]⟩
abbrev S2x19x516x516 : Shape := ⟨4, ![2, 19, 516, 516]⟩

abbrev nBuf : Space → Nat
  | .hbm => 291
  | .vmem => 0
  | .smem => 0
  | _ => 0

abbrev hbmTy0_0 (i : Nat) : BufTy := match i % 128 with
  | 0 => ⟨S2x19x512x512, .f32⟩
  | 1 => ⟨S2x512x512, .i32⟩
  | 2 => ⟨S_, .i1⟩
  | 3 => ⟨S512x512, .i1⟩
  | 4 => ⟨S_, .i32⟩
  | 5 => ⟨S1, .i32⟩
  | 6 => ⟨S_, .i32⟩
  | 7 => ⟨S1, .i32⟩
  | 8 => ⟨S2, .i32⟩
  | 9 => ⟨S_, .i1⟩
  | 10 => ⟨S508x508, .i1⟩
  | 11 => ⟨S512x512, .i1⟩
  | 12 => ⟨S2x512x512x1, .i32⟩
  | 13 => ⟨S1x1x1x19, .i32⟩
  | 14 => ⟨S2x512x512x19, .i32⟩
  | 15 => ⟨S2x512x512x19, .i32⟩
  | 16 => ⟨S2x512x512x19, .i1⟩
  | 17 => ⟨S2x512x512x19, .f32⟩
  | 18 => ⟨S2x19x512x512, .f32⟩
  | 19 => ⟨S2x19x1x512, .f32⟩
  | 20 => ⟨S2x19x1x512, .f32⟩
  | 21 => ⟨S2x19x514x512, .f32⟩
  | 22 => ⟨S2x19x514x1, .f32⟩
  | 23 => ⟨S2x19x514x1, .f32⟩
  | 24 => ⟨S2x19x514x514, .f32⟩
  | 25 => ⟨S_, .f32⟩
  | 26 => ⟨S2x19x512x512, .f32⟩
  | 27 => ⟨S2x19x512x512, .f32⟩
  | 28 => ⟨S_, .f32⟩
  | 29 => ⟨S2x19x512x512, .f32⟩
  | 30 => ⟨S2x19x512x512, .f32⟩
  | 31 => ⟨S2x19x512x512, .f32⟩
  | 32 => ⟨S2x19x512x512, .f32⟩
  | 33 => ⟨S_, .f32⟩
  | 34 => ⟨S2x19x512x512, .f32⟩
  | 35 => ⟨S2x19x512x512, .f32⟩
  | 36 => ⟨S2x19x512x512, .f32⟩
  | 37 => ⟨S2x19x512x512, .f32⟩
  | 38 => ⟨S_, .f32⟩
  | 39 => ⟨S2x19x512x512, .f32⟩
  | 40 => ⟨S2x19x512x512, .f32⟩
  | 41 => ⟨S2x19x512x512, .f32⟩
  | 42 => ⟨S2x19x512x512, .f32⟩
  | 43 => ⟨S_, .f32⟩
  | 44 => ⟨S2x19x512x512, .f32⟩
  | 45 => ⟨S2x19x512x512, .f32⟩
  | 46 => ⟨S2x19x512x512, .f32⟩
  | 47 => ⟨S2x19x512x512, .f32⟩
  | 48 => ⟨S_, .f32⟩
  | 49 => ⟨S2x19x512x512, .f32⟩
  | 50 => ⟨S2x19x512x512, .f32⟩
  | 51 => ⟨S2x19x512x512, .f32⟩
  | 52 => ⟨S2x19x512x512, .f32⟩
  | 53 => ⟨S_, .f32⟩
  | 54 => ⟨S2x19x512x512, .f32⟩
  | 55 => ⟨S2x19x512x512, .f32⟩
  | 56 => ⟨S2x19x512x512, .f32⟩
  | 57 => ⟨S2x19x1x512, .f32⟩
  | 58 => ⟨S2x19x1x512, .f32⟩
  | 59 => ⟨S2x19x514x512, .f32⟩
  | 60 => ⟨S2x19x514x1, .f32⟩
  | 61 => ⟨S2x19x514x1, .f32⟩
  | 62 => ⟨S2x19x514x514, .f32⟩
  | 63 => ⟨S_, .f32⟩
  | 64 => ⟨S2x19x512x512, .f32⟩
  | 65 => ⟨S2x19x512x512, .f32⟩
  | 66 => ⟨S_, .f32⟩
  | 67 => ⟨S2x19x512x512, .f32⟩
  | 68 => ⟨S2x19x512x512, .f32⟩
  | 69 => ⟨S2x19x512x512, .f32⟩
  | 70 => ⟨S2x19x512x512, .f32⟩
  | 71 => ⟨S_, .f32⟩
  | 72 => ⟨S2x19x512x512, .f32⟩
  | 73 => ⟨S2x19x512x512, .f32⟩
  | 74 => ⟨S2x19x512x512, .f32⟩
  | 75 => ⟨S2x19x512x512, .f32⟩
  | 76 => ⟨S_, .f32⟩
  | 77 => ⟨S2x19x512x512, .f32⟩
  | 78 => ⟨S2x19x512x512, .f32⟩
  | 79 => ⟨S2x19x512x512, .f32⟩
  | 80 => ⟨S2x19x512x512, .f32⟩
  | 81 => ⟨S_, .f32⟩
  | 82 => ⟨S2x19x512x512, .f32⟩
  | 83 => ⟨S2x19x512x512, .f32⟩
  | 84 => ⟨S2x19x512x512, .f32⟩
  | 85 => ⟨S2x19x512x512, .f32⟩
  | 86 => ⟨S_, .f32⟩
  | 87 => ⟨S2x19x512x512, .f32⟩
  | 88 => ⟨S2x19x512x512, .f32⟩
  | 89 => ⟨S2x19x512x512, .f32⟩
  | 90 => ⟨S2x19x512x512, .f32⟩
  | 91 => ⟨S_, .f32⟩
  | 92 => ⟨S2x19x512x512, .f32⟩
  | 93 => ⟨S2x19x512x512, .f32⟩
  | 94 => ⟨S2x19x512x512, .f32⟩
  | 95 => ⟨S2x19x1x512, .f32⟩
  | 96 => ⟨S2x19x1x512, .f32⟩
  | 97 => ⟨S2x19x514x512, .f32⟩
  | 98 => ⟨S2x19x514x1, .f32⟩
  | 99 => ⟨S2x19x514x1, .f32⟩
  | 100 => ⟨S2x19x514x514, .f32⟩
  | 101 => ⟨S_, .f32⟩
  | 102 => ⟨S2x19x512x512, .f32⟩
  | 103 => ⟨S2x19x512x512, .f32⟩
  | 104 => ⟨S_, .f32⟩
  | 105 => ⟨S2x19x512x512, .f32⟩
  | 106 => ⟨S2x19x512x512, .f32⟩
  | 107 => ⟨S2x19x512x512, .f32⟩
  | 108 => ⟨S2x19x512x512, .f32⟩
  | 109 => ⟨S_, .f32⟩
  | 110 => ⟨S2x19x512x512, .f32⟩
  | 111 => ⟨S2x19x512x512, .f32⟩
  | 112 => ⟨S2x19x512x512, .f32⟩
  | 113 => ⟨S2x19x512x512, .f32⟩
  | 114 => ⟨S_, .f32⟩
  | 115 => ⟨S2x19x512x512, .f32⟩
  | 116 => ⟨S2x19x512x512, .f32⟩
  | 117 => ⟨S2x19x512x512, .f32⟩
  | 118 => ⟨S2x19x512x512, .f32⟩
  | 119 => ⟨S_, .f32⟩
  | 120 => ⟨S2x19x512x512, .f32⟩
  | 121 => ⟨S2x19x512x512, .f32⟩
  | 122 => ⟨S2x19x512x512, .f32⟩
  | 123 => ⟨S2x19x512x512, .f32⟩
  | 124 => ⟨S_, .f32⟩
  | 125 => ⟨S2x19x512x512, .f32⟩
  | 126 => ⟨S2x19x512x512, .f32⟩
  | 127 => ⟨S2x19x512x512, .f32⟩
  | _ => ⟨S2x19x512x512, .f32⟩

abbrev hbmTy0_1 (i : Nat) : BufTy := match i % 128 with
  | 0 => ⟨S2x19x512x512, .f32⟩
  | 1 => ⟨S_, .f32⟩
  | 2 => ⟨S2x19x512x512, .f32⟩
  | 3 => ⟨S2x19x512x512, .f32⟩
  | 4 => ⟨S2x19x512x512, .f32⟩
  | 5 => ⟨S2x19x1x512, .f32⟩
  | 6 => ⟨S2x19x1x512, .f32⟩
  | 7 => ⟨S2x19x514x512, .f32⟩
  | 8 => ⟨S2x19x514x1, .f32⟩
  | 9 => ⟨S2x19x514x1, .f32⟩
  | 10 => ⟨S2x19x514x514, .f32⟩
  | 11 => ⟨S_, .f32⟩
  | 12 => ⟨S2x19x512x512, .f32⟩
  | 13 => ⟨S2x19x512x512, .f32⟩
  | 14 => ⟨S_, .f32⟩
  | 15 => ⟨S2x19x512x512, .f32⟩
  | 16 => ⟨S2x19x512x512, .f32⟩
  | 17 => ⟨S2x19x512x512, .f32⟩
  | 18 => ⟨S2x19x512x512, .f32⟩
  | 19 => ⟨S_, .f32⟩
  | 20 => ⟨S2x19x512x512, .f32⟩
  | 21 => ⟨S2x19x512x512, .f32⟩
  | 22 => ⟨S2x19x512x512, .f32⟩
  | 23 => ⟨S2x19x512x512, .f32⟩
  | 24 => ⟨S_, .f32⟩
  | 25 => ⟨S2x19x512x512, .f32⟩
  | 26 => ⟨S2x19x512x512, .f32⟩
  | 27 => ⟨S2x19x512x512, .f32⟩
  | 28 => ⟨S2x19x512x512, .f32⟩
  | 29 => ⟨S_, .f32⟩
  | 30 => ⟨S2x19x512x512, .f32⟩
  | 31 => ⟨S2x19x512x512, .f32⟩
  | 32 => ⟨S2x19x512x512, .f32⟩
  | 33 => ⟨S2x19x512x512, .f32⟩
  | 34 => ⟨S_, .f32⟩
  | 35 => ⟨S2x19x512x512, .f32⟩
  | 36 => ⟨S2x19x512x512, .f32⟩
  | 37 => ⟨S2x19x512x512, .f32⟩
  | 38 => ⟨S2x19x512x512, .f32⟩
  | 39 => ⟨S_, .f32⟩
  | 40 => ⟨S2x19x512x512, .f32⟩
  | 41 => ⟨S2x19x512x512, .f32⟩
  | 42 => ⟨S2x19x512x512, .f32⟩
  | 43 => ⟨S2x19x1x512, .f32⟩
  | 44 => ⟨S2x19x1x512, .f32⟩
  | 45 => ⟨S2x19x514x512, .f32⟩
  | 46 => ⟨S2x19x514x1, .f32⟩
  | 47 => ⟨S2x19x514x1, .f32⟩
  | 48 => ⟨S2x19x514x514, .f32⟩
  | 49 => ⟨S_, .f32⟩
  | 50 => ⟨S2x19x512x512, .f32⟩
  | 51 => ⟨S2x19x512x512, .f32⟩
  | 52 => ⟨S_, .f32⟩
  | 53 => ⟨S2x19x512x512, .f32⟩
  | 54 => ⟨S2x19x512x512, .f32⟩
  | 55 => ⟨S2x19x512x512, .f32⟩
  | 56 => ⟨S2x19x512x512, .f32⟩
  | 57 => ⟨S_, .f32⟩
  | 58 => ⟨S2x19x512x512, .f32⟩
  | 59 => ⟨S2x19x512x512, .f32⟩
  | 60 => ⟨S2x19x512x512, .f32⟩
  | 61 => ⟨S2x19x512x512, .f32⟩
  | 62 => ⟨S_, .f32⟩
  | 63 => ⟨S2x19x512x512, .f32⟩
  | 64 => ⟨S2x19x512x512, .f32⟩
  | 65 => ⟨S2x19x512x512, .f32⟩
  | 66 => ⟨S2x19x512x512, .f32⟩
  | 67 => ⟨S_, .f32⟩
  | 68 => ⟨S2x19x512x512, .f32⟩
  | 69 => ⟨S2x19x512x512, .f32⟩
  | 70 => ⟨S2x19x512x512, .f32⟩
  | 71 => ⟨S2x19x512x512, .f32⟩
  | 72 => ⟨S_, .f32⟩
  | 73 => ⟨S2x19x512x512, .f32⟩
  | 74 => ⟨S2x19x512x512, .f32⟩
  | 75 => ⟨S2x19x512x512, .f32⟩
  | 76 => ⟨S2x19x512x512, .f32⟩
  | 77 => ⟨S_, .f32⟩
  | 78 => ⟨S2x19x512x512, .f32⟩
  | 79 => ⟨S2x19x512x512, .f32⟩
  | 80 => ⟨S2x19x512x512, .f32⟩
  | 81 => ⟨S2x19x512x512, .f32⟩
  | 82 => ⟨S_, .f32⟩
  | 83 => ⟨S2x19x512x512, .f32⟩
  | 84 => ⟨S2x19x512x512, .f32⟩
  | 85 => ⟨S2x19x512x512, .f32⟩
  | 86 => ⟨S2x19x512x512, .f32⟩
  | 87 => ⟨S_, .f32⟩
  | 88 => ⟨S2x19x512x512, .f32⟩
  | 89 => ⟨S2x19x512x512, .f32⟩
  | 90 => ⟨S2x19x512x512, .f32⟩
  | 91 => ⟨S2x19x512x512, .f32⟩
  | 92 => ⟨S_, .f32⟩
  | 93 => ⟨S_, .f32⟩
  | 94 => ⟨S2x19x512x512, .f32⟩
  | 95 => ⟨S2x19x512x512, .f32⟩
  | 96 => ⟨S_, .f32⟩
  | 97 => ⟨S2x19x512x512, .f32⟩
  | 98 => ⟨S2x19x512x512, .f32⟩
  | 99 => ⟨S2x19x512x512, .f32⟩
  | 100 => ⟨S_, .f32⟩
  | 101 => ⟨S2x19x512x512, .f32⟩
  | 102 => ⟨S2x19x512x512, .f32⟩
  | 103 => ⟨S_, .f32⟩
  | 104 => ⟨S_, .f32⟩
  | 105 => ⟨S2x19x512x512, .f32⟩
  | 106 => ⟨S2x19x512x512, .f32⟩
  | 107 => ⟨S_, .f32⟩
  | 108 => ⟨S_, .f32⟩
  | 109 => ⟨S2x19x512x512, .f32⟩
  | 110 => ⟨S2x19x512x512, .f32⟩
  | 111 => ⟨S2x19x512x512, .f32⟩
  | 112 => ⟨S_, .i32⟩
  | 113 => ⟨S_, .f32⟩
  | 114 => ⟨S2x19x516x516, .f32⟩
  | 115 => ⟨S_, .f32⟩
  | 116 => ⟨S2x19x512x512, .f32⟩
  | 117 => ⟨S_, .f32⟩
  | 118 => ⟨S2x19x512x512, .f32⟩
  | 119 => ⟨S_, .f32⟩
  | 120 => ⟨S2x19x512x512, .f32⟩
  | 121 => ⟨S2x19x512x512, .f32⟩
  | 122 => ⟨S2x19x512x512, .f32⟩
  | 123 => ⟨S2x19x512x512, .f32⟩
  | 124 => ⟨S2x19x512x512, .f32⟩
  | 125 => ⟨S2x19x512x512, .f32⟩
  | 126 => ⟨S2x19x512x512, .f32⟩
  | 127 => ⟨S2x19x512x512, .f32⟩
  | _ => ⟨S2x19x512x512, .f32⟩

abbrev hbmTy0_2 (i : Nat) : BufTy := match i % 128 with
  | 0 => ⟨S2x19x512x512, .f32⟩
  | 1 => ⟨S2x19x512x512, .f32⟩
  | 2 => ⟨S2x19x512x512, .f32⟩
  | 3 => ⟨S2x19x512x512, .f32⟩
  | 4 => ⟨S2x19x512x512, .f32⟩
  | 5 => ⟨S2x19x512x512, .f32⟩
  | 6 => ⟨S2x19x512x512, .f32⟩
  | 7 => ⟨S2x19x512x512, .f32⟩
  | 8 => ⟨S2x19x512x512, .f32⟩
  | 9 => ⟨S2x19x512x512, .f32⟩
  | 10 => ⟨S2x19x512x512, .f32⟩
  | 11 => ⟨S2x19x512x512, .f32⟩
  | 12 => ⟨S2x19x512x512, .f32⟩
  | 13 => ⟨S2x19x512x512, .f32⟩
  | 14 => ⟨S2x19x512x512, .f32⟩
  | 15 => ⟨S2x19x512x512, .f32⟩
  | 16 => ⟨S2x19x512x512, .f32⟩
  | 17 => ⟨S_, .f32⟩
  | 18 => ⟨S2x19x512x512, .f32⟩
  | 19 => ⟨S2x19x512x512, .i1⟩
  | 20 => ⟨S2x19x512x512, .f32⟩
  | 21 => ⟨S_, .f32⟩
  | 22 => ⟨S2x19x512x512, .f32⟩
  | 23 => ⟨S2x19x512x512, .i1⟩
  | 24 => ⟨S2x19x512x512, .f32⟩
  | 25 => ⟨S2x19x512x512, .f32⟩
  | 26 => ⟨S2x19x512x512, .f32⟩
  | 27 => ⟨S2x19x512x512, .f32⟩
  | 28 => ⟨S_, .f32⟩
  | 29 => ⟨S_, .f32⟩
  | 30 => ⟨S2x19x512x512, .i1⟩
  | 31 => ⟨S2x19x512x512, .f32⟩
  | 32 => ⟨S2x19x512x512, .f32⟩
  | 33 => ⟨S_, .f32⟩
  | 34 => ⟨S_, .f32⟩
  | _ => ⟨S2x19x512x512, .f32⟩

abbrev hbmTy (i : Nat) : BufTy := match i / 128 with
  | 0 => hbmTy0_0 i
  | 1 => hbmTy0_1 i
  | 2 => hbmTy0_2 i
  | _ => ⟨S2x19x512x512, .f32⟩

abbrev bufTy : (tb : Table) → Fin (tcTables nBuf tb) → BufTy
  | .hbm, ⟨i, _⟩ => hbmTy i
  | _, _ => ⟨S2x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_c_1 : Ref sig .tc := ⟨.hbm, 6, rfl⟩
abbrev main_v2 : Ref sig .tc := ⟨.hbm, 7, rfl⟩
abbrev main_v3 : Ref sig .tc := ⟨.hbm, 8, rfl⟩
abbrev main_c_2 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_12 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_13 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_14 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_15 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_16 : Ref sig .tc := ⟨.hbm, 101, rfl⟩
abbrev main_v76 : Ref sig .tc := ⟨.hbm, 102, rfl⟩
abbrev main_v77 : Ref sig .tc := ⟨.hbm, 103, rfl⟩
abbrev main_cst_17 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_18 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_19 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_20 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_21 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_22 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_23 : Ref sig .tc := ⟨.hbm, 139, rfl⟩
abbrev main_v107 : Ref sig .tc := ⟨.hbm, 140, rfl⟩
abbrev main_v108 : Ref sig .tc := ⟨.hbm, 141, rfl⟩
abbrev main_cst_24 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_cst_25 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_cst_26 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_cst_27 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_cst_28 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_cst_29 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_cst_30 : Ref sig .tc := ⟨.hbm, 177, rfl⟩
abbrev main_v138 : Ref sig .tc := ⟨.hbm, 178, rfl⟩
abbrev main_v139 : Ref sig .tc := ⟨.hbm, 179, rfl⟩
abbrev main_cst_31 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_cst_32 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_cst_33 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_cst_34 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_cst_35 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_cst_36 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_cst_37 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_cst_38 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_cst_39 : Ref sig .tc := ⟨.hbm, 220, rfl⟩
abbrev main_call1_v0 : Ref sig .tc := ⟨.hbm, 221, rfl⟩
abbrev main_call1_v1 : Ref sig .tc := ⟨.hbm, 222, rfl⟩
abbrev main_v172 : Ref sig .tc := ⟨.hbm, 223, rfl⟩
abbrev main_cst_40 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_cst_41 : Ref sig .tc := ⟨.hbm, 228, rfl⟩
abbrev main_v176 : Ref sig .tc := ⟨.hbm, 229, rfl⟩
abbrev main_v177 : Ref sig .tc := ⟨.hbm, 230, rfl⟩
abbrev main_cst_42 : Ref sig .tc := ⟨.hbm, 231, rfl⟩
abbrev main_call3_v0 : Ref sig .tc := ⟨.hbm, 232, rfl⟩
abbrev main_call3_v1 : Ref sig .tc := ⟨.hbm, 233, rfl⟩
abbrev main_v178 : Ref sig .tc := ⟨.hbm, 234, rfl⟩
abbrev main_cst_43 : Ref sig .tc := ⟨.hbm, 235, rfl⟩
abbrev main_call4_v0 : Ref sig .tc := ⟨.hbm, 236, rfl⟩
abbrev main_call4_v1 : Ref sig .tc := ⟨.hbm, 237, rfl⟩
abbrev main_v179 : Ref sig .tc := ⟨.hbm, 238, rfl⟩
abbrev main_v180 : Ref sig .tc := ⟨.hbm, 239, rfl⟩
abbrev main_c_44 : Ref sig .tc := ⟨.hbm, 240, rfl⟩
abbrev main_call5_v0 : Ref sig .tc := ⟨.hbm, 241, rfl⟩
abbrev main_v181 : Ref sig .tc := ⟨.hbm, 242, rfl⟩
abbrev main_cst_45 : Ref sig .tc := ⟨.hbm, 243, rfl⟩
abbrev main_v182 : Ref sig .tc := ⟨.hbm, 244, rfl⟩
abbrev main_cst_46 : Ref sig .tc := ⟨.hbm, 245, rfl⟩
abbrev main_v183 : Ref sig .tc := ⟨.hbm, 246, rfl⟩
abbrev main_cst_47 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_cst_48 : Ref sig .tc := ⟨.hbm, 273, rfl⟩
abbrev main_v209 : Ref sig .tc := ⟨.hbm, 274, rfl⟩
abbrev main_v210 : Ref sig .tc := ⟨.hbm, 275, rfl⟩
abbrev main_v211 : Ref sig .tc := ⟨.hbm, 276, rfl⟩
abbrev main_cst_49 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_cst_50 : Ref sig .tc := ⟨.hbm, 284, rfl⟩
abbrev main_call8_v0 : Ref sig .tc := ⟨.hbm, 285, rfl⟩
abbrev main_call8_v1 : Ref sig .tc := ⟨.hbm, 286, rfl⟩
abbrev main_call8_v2 : Ref sig .tc := ⟨.hbm, 287, rfl⟩
abbrev main_v218 : Ref sig .tc := ⟨.hbm, 288, rfl⟩
abbrev main_cst_51 : Ref sig .tc := ⟨.hbm, 289, rfl⟩
abbrev main_v219 : Ref sig .tc := ⟨.hbm, 290, rfl⟩

abbrev nD : Nat := 1
abbrev τ : Topo := Topo.v7x

variable {F : FTy → Type} [FloatOps F]
-- ==== Proof.Cosine.lean ====
module

public import Mathlib.Analysis.SpecialFunctions.Trigonometric.Arctan

@[expose] public section

/-! # Numerical bounds on the cosine and on pi -/

noncomputable section

namespace Cert.Proof

/-- The cosine's Taylor polynomial of degree ten. -/
def cosPoly (t : ℝ) : ℝ :=
  1 - t ^ 2 / 2 + t ^ 4 / 24 - t ^ 6 / 720 + t ^ 8 / 40320 - t ^ 10 / 3628800

/-- The powers of the imaginary unit up to the eleventh. -/
theorem unit_powers : Complex.I ^ 2 = -1 ∧ Complex.I ^ 3 = -Complex.I ∧ Complex.I ^ 4 = 1 ∧ Complex.I ^ 5 = Complex.I
    ∧ Complex.I ^ 6 = -1 ∧ Complex.I ^ 7 = -Complex.I ∧ Complex.I ^ 8 = 1 ∧ Complex.I ^ 9 = Complex.I
    ∧ Complex.I ^ 10 = -1 ∧ Complex.I ^ 11 = -Complex.I := by
  have h2 := Complex.I_sq
  have h3 : Complex.I ^ 3 = -Complex.I := by rw [pow_succ, h2]; ring
  have h4 : Complex.I ^ 4 = 1 := by rw [pow_succ, h3, neg_mul, ← sq, h2]; ring
  refine ⟨h2, h3, h4, ?_, ?_, ?_, ?_, ?_, ?_, ?_⟩
  · rw [show 5 = 4 + 1 from rfl, pow_add, h4]; ring
  · rw [show 6 = 4 + 2 from rfl, pow_add, h4, h2]; ring
  · rw [show 7 = 4 + 3 from rfl, pow_add, h4, h3]; ring
  · rw [show 8 = 4 + 4 from rfl, pow_add, h4]; ring
  · rw [show 9 = 4 + 4 + 1 from rfl, pow_add, pow_add, h4]; ring
  · rw [show 10 = 4 + 4 + 2 from rfl, pow_add, pow_add, h4, h2]; ring
  · rw [show 11 = 4 + 4 + 3 from rfl, pow_add, pow_add, h4, h3]; ring

/-- The cosine of a real of magnitude at most one is its Taylor polynomial of degree ten to within a billionth. -/
theorem cos_near (t : ℝ) (h0 : 0 ≤ t) (h1 : t ≤ 4 / 5) : |Real.cos t - cosPoly t| ≤ 1 / 1000000000 := by
  have hn : ‖(t : ℂ) * Complex.I‖ = t := by simp [abs_of_nonneg h0]
  have hb := Complex.exp_bound (x := (t : ℂ) * Complex.I) (by rw [hn]; linarith) (n := 12) (by norm_num)
  rw [hn] at hb
  have hs : (∑ m ∈ Finset.range 12, ((t : ℂ) * Complex.I) ^ m / (m.factorial : ℂ)) = ((cosPoly t : ℝ) : ℂ)
      + ((t - t ^ 3 / 6 + t ^ 5 / 120 - t ^ 7 / 5040 + t ^ 9 / 362880 - t ^ 11 / 39916800 : ℝ) : ℂ) * Complex.I := by
    obtain ⟨p2, p3, p4, p5, p6, p7, p8, p9, p10, p11⟩ := unit_powers
    simp only [Finset.sum_range_succ, Finset.sum_range_zero, mul_pow, p2, p3, p4, p5, p6, p7, p8, p9, p10, p11,
      Nat.factorial, cosPoly]
    push_cast
    ring
  have hr : (Complex.exp ((t : ℂ) * Complex.I)
      - ∑ m ∈ Finset.range 12, ((t : ℂ) * Complex.I) ^ m / (m.factorial : ℂ)).re = Real.cos t - cosPoly t := by
    rw [hs, Complex.sub_re, Complex.exp_ofReal_mul_I_re, Complex.add_re, Complex.re_ofReal_mul, Complex.I_re,
      mul_zero, add_zero, Complex.ofReal_re]
  rw [← hr]
  refine (Complex.abs_re_le_norm _).trans (hb.trans ?_)
  have hp : t ^ 12 ≤ (4 / 5) ^ 12 := pow_le_pow_left₀ h0 h1 12
  have : t ^ 12 * (((12 : ℕ).succ : ℝ) * (((12 : ℕ).factorial : ℝ) * (12 : ℕ))⁻¹)
      ≤ (4 / 5) ^ 12 * (((12 : ℕ).succ : ℝ) * (((12 : ℕ).factorial : ℝ) * (12 : ℕ))⁻¹) :=
    mul_le_mul_of_nonneg_right hp (by positivity)
  refine this.trans ?_
  norm_num [Nat.factorial]

/-- The angle, in radians, whose multiple by the reference's literal for five over pi is one half. -/
def halfStep : ℝ := 4194304 / 13350884

/-- The cosine of one step. -/
theorem cos_step : 0.8090 < Real.cos (2 * halfStep) ∧ Real.cos (2 * halfStep) < 0.80902 := by
  have h := cos_near (2 * halfStep) (by unfold halfStep; norm_num) (by unfold halfStep; norm_num)
  rw [abs_le] at h
  unfold cosPoly halfStep at *
  norm_num at h ⊢
  constructor <;> linarith [h.1, h.2]

/-- The cosine of three steps. -/
theorem cos_three_steps : -0.3093 < Real.cos (2 * (3 * halfStep)) ∧ Real.cos (2 * (3 * halfStep)) < -0.3089 := by
  have e : 2 * (3 * halfStep) = 3 * (2 * halfStep) := by ring
  rw [e, Real.cos_three_mul]
  obtain ⟨h1, h2⟩ := cos_step
  generalize Real.cos (2 * halfStep) = c at h1 h2
  constructor
  · nlinarith [mul_pos (sub_pos.2 h1) (sub_pos.2 h1), mul_pos (sub_pos.2 h1) (mul_pos (sub_pos.2 h1) (sub_pos.2 h1))]
  · have h3 : 0 < (0.80902 - c) * (4 * (0.80902 ^ 2 + 0.80902 * c + c ^ 2) - 3) := by
      refine mul_pos (by linarith) ?_
      nlinarith [h1, h2]
    have h4 : (0.80902 - c) * (4 * (0.80902 ^ 2 + 0.80902 * c + c ^ 2) - 3)
        = (4 * 0.80902 ^ 3 - 3 * 0.80902) - (4 * c ^ 3 - 3 * c) := by ring
    rw [h4] at h3
    norm_num at h3 ⊢
    linarith

/-- A right angle is below five half steps. -/
theorem right_angle_lt : Real.pi / 2 < 5 * halfStep := by
  by_contra hc
  push Not at hc
  have hpos : 0 ≤ Real.cos (5 * halfStep) :=
    Real.cos_nonneg_of_neg_pi_div_two_le_of_le (by unfold halfStep at *; linarith) hc
  have h := cos_near (5 / 2 * halfStep) (by unfold halfStep; norm_num) (by unfold halfStep; norm_num)
  have e : 5 * halfStep = 2 * (5 / 2 * halfStep) := by ring
  rw [e, Real.cos_two_mul] at hpos
  rw [abs_le] at h
  have hu : Real.cos (5 / 2 * halfStep) < 0.707106775 := by
    unfold cosPoly halfStep at *
    norm_num at h ⊢
    linarith [h.1, h.2]
  have hl : 0 < Real.cos (5 / 2 * halfStep) := by
    unfold cosPoly halfStep at *
    norm_num at h ⊢
    linarith [h.1, h.2]
  have : Real.cos (5 / 2 * halfStep) ^ 2 < 0.707106775 ^ 2 := pow_lt_pow_left₀ hu hl.le (by norm_num)
  norm_num at this hpos
  linarith

end Cert.Proof

end
-- ==== Proof.Direction.lean ====
module

public import Idealize.ShloMosaic.Lib.Pointwise
public import proofs.«01_k».proof.Proof.Cosine

@[expose] public section

/-! # The direction of an edge, from the slope of its gradient

The reference takes the angle whose tangent is the slope, multiplies it by five over pi, rounds to the nearest
integer and reduces modulo five and then four. The kernel compares the slope with two thresholds. Both are settled
here for every real slope outside three short intervals, and the slopes that occur — an integer over an integer
shifted by a tiny constant — are shown to lie outside those intervals. -/

noncomputable section

namespace Cert.Proof

open Idealize.ShloMosaic

/-! ## Rounding -/

/-- A real strictly within one half of an integer rounds to that integer. -/
theorem roundHalfEven_of_near (x : ℝ) (k : ℤ) (h1 : (k : ℝ) - 1 / 2 < x) (h2 : x < k + 1 / 2) :
    Ideal.roundHalfEven x = k := by
  unfold Ideal.roundHalfEven
  by_cases hk : (k : ℝ) ≤ x
  · have hf : ⌊x⌋ = k := by rw [Int.floor_eq_iff]; constructor <;> linarith
    simp only [hf]
    rw [if_pos (by linarith)]
  · have hf : ⌊x⌋ = k - 1 := by
      rw [Int.floor_eq_iff]; push_cast; push Not at hk; constructor <;> linarith
    simp only [hf]
    push_cast
    rw [if_neg (by linarith), if_pos (by linarith)]
    ring

/-- The integer part toward zero of a real of magnitude below one is zero. -/
theorem truncInt_small (x : ℝ) (h1 : -1 < x) (h2 : x < 1) : Ideal.truncInt x = 0 := by
  unfold Ideal.truncInt
  split_ifs with h
  · rw [Int.floor_eq_iff]; constructor <;> push_cast <;> linarith
  · rw [Int.ceil_eq_iff]; push Not at h; constructor <;> push_cast <;> linarith

/-- The integer part toward zero of a real in the interval from one to two is one. -/
theorem truncInt_one (x : ℝ) (h1 : 1 ≤ x) (h2 : x < 2) : Ideal.truncInt x = 1 := by
  unfold Ideal.truncInt
  rw [if_pos (by linarith), Int.floor_eq_iff]; constructor <;> push_cast <;> linarith

/-! ## The literals -/

/-- The literal 5 of the reference is the real five. -/
theorem lit_five : Ideal.ofBits .f32 0x40A00000#32 = ((5 : ℝ) : EReal) := by
  simp [Ideal.ofBits, Ideal.ieee, -EReal.coe_mul]; norm_num
/-- The literal 4 of the reference is the real four. -/
theorem lit_four : Ideal.ofBits .f32 0x40800000#32 = ((4 : ℝ) : EReal) := by
  simp [Ideal.ofBits, Ideal.ieee, -EReal.coe_mul]; norm_num
/-- The reference's literal for pi, as a rational. -/
theorem lit_pi : Ideal.ofBits .f32 0x40490FDB#32 = ((13176795 / 4194304 : ℝ) : EReal) := by
  simp [Ideal.ofBits, Ideal.ieee, -EReal.coe_mul]; norm_num
/-- The reference's literal for five over pi, as a rational. -/
theorem lit_five_div_pi : Ideal.ofBits .f32 0x3FCBB7E4#32 = ((13350884 / 8388608 : ℝ) : EReal) := by
  simp [Ideal.ofBits, Ideal.ieee, -EReal.coe_mul]; norm_num

/-! ## The angle against the rounding boundaries -/

/-- The cosine of twice the angle whose tangent is `z`. -/
theorem cos_two_arctan (z : ℝ) : Real.cos (2 * Real.arctan z) = (1 - z ^ 2) / (1 + z ^ 2) := by
  rw [Real.cos_two_mul, Real.cos_sq_arctan]
  have : (1 + z ^ 2) ≠ 0 := by positivity
  field_simp
  ring

/-- The angle of a non-negative slope is below `b` when the cosine of twice the angle is above that of twice `b`. -/
theorem arctan_lt_of_cos (z b : ℝ) (hz : 0 ≤ z) (hb : 0 ≤ b) (h : Real.cos (2 * b) < (1 - z ^ 2) / (1 + z ^ 2)) :
    Real.arctan z < b := by
  by_contra hc
  push Not at hc
  have h1 := Real.arctan_lt_pi_div_two z
  have := Real.cos_le_cos_of_nonneg_of_le_pi (x := 2 * b) (y := 2 * Real.arctan z) (by linarith) (by linarith) (by linarith)
  rw [cos_two_arctan] at this
  linarith

/-- The angle of a non-negative slope is above `b` when the cosine of twice the angle is below that of twice `b`. -/
theorem lt_arctan_of_cos (z b : ℝ) (hz : 0 ≤ z) (hb : 2 * b ≤ Real.pi) (h : (1 - z ^ 2) / (1 + z ^ 2) < Real.cos (2 * b)) :
    b < Real.arctan z := by
  by_contra hc
  push Not at hc
  have h1 := Real.arctan_nonneg.2 hz
  have := Real.cos_le_cos_of_nonneg_of_le_pi (x := 2 * Real.arctan z) (y := 2 * b) (by linarith) (by linarith) (by linarith)
  rw [cos_two_arctan] at this
  linarith

/-- The angle of the lower gap's lower end is below half a step. -/
theorem arctan_low : Real.arctan 0.323 < halfStep := by
  have h := cos_step
  refine arctan_lt_of_cos _ _ (by norm_num) (by unfold halfStep; norm_num) ?_
  norm_num at h ⊢
  linarith [h.1, h.2]

/-- The angle of the lower gap's upper end is above half a step. -/
theorem arctan_mid : halfStep < Real.arctan 0.333 := by
  have h := cos_step
  refine lt_arctan_of_cos _ _ (by norm_num) (by unfold halfStep; linarith [Real.two_le_pi]) ?_
  norm_num at h ⊢
  linarith [h.1, h.2]

/-- The angle of the upper gap's lower end is below three half steps. -/
theorem arctan_high : Real.arctan 1.3755 < 3 * halfStep := by
  have h := cos_three_steps
  refine arctan_lt_of_cos _ _ (by norm_num) (by unfold halfStep; norm_num) ?_
  norm_num at h ⊢
  linarith [h.1, h.2]

/-- The angle of the upper gap's upper end is above three half steps. -/
theorem arctan_top : 3 * halfStep < Real.arctan 1.378 := by
  have h := cos_three_steps
  refine lt_arctan_of_cos _ _ (by norm_num) (by unfold halfStep; linarith [Real.two_le_pi]) ?_
  norm_num at h ⊢
  linarith [h.1, h.2]

/-! ## The reference's direction number -/

/-- The reference's direction number of a slope. -/
def direction (z : EReal) : EReal :=
  Ideal.remf (Ideal.remf (Ideal.liftRound Ideal.roundHalfEven
    (Ideal.remf (Ideal.atan z) (Ideal.ofBits .f32 0x40490FDB#32) * Ideal.ofBits .f32 0x3FCBB7E4#32)
      + Ideal.ofBits .f32 0x40A00000#32) (Ideal.ofBits .f32 0x40A00000#32)) (Ideal.ofBits .f32 0x40800000#32)

/-- The direction number, once the scaled angle is known to round to `k`. -/
theorem direction_eq (z : ℝ) (k : ℤ) (h1 : (2 * (k : ℝ) - 1) * halfStep < Real.arctan z)
    (h2 : Real.arctan z < (2 * (k : ℝ) + 1) * halfStep) :
    direction z = Ideal.remf (Ideal.remf (((k : ℝ) + 5 : ℝ) : EReal) ((5 : ℝ) : EReal)) ((4 : ℝ) : EReal) := by
  unfold direction
  rw [lit_pi, lit_five_div_pi, lit_five, lit_four]
  have hz : Ideal.atan (z : EReal) = ((Real.arctan z : ℝ) : EReal) := rfl
  have ha := Real.arctan_lt_pi_div_two z
  have hb := Real.neg_pi_div_two_lt_arctan z
  have hp := right_angle_lt; unfold halfStep at hp
  rw [hz, Ideal.remf_coe, if_neg (by norm_num), truncInt_small _ (by rw [lt_div_iff₀ (by norm_num)]; linarith)
    (by rw [div_lt_iff₀ (by norm_num)]; linarith)]
  rw [← EReal.coe_mul, Ideal.liftRound_coe, roundHalfEven_of_near _ k, ← EReal.coe_add]
  · unfold halfStep at h1; push_cast; linarith
  · unfold halfStep at h2; push_cast; linarith

/-- A slope between the negative upper threshold and the lower threshold has direction number zero. -/
theorem direction_flat (z : ℝ) (h1 : -1.3755 ≤ z) (h2 : z ≤ 0.323) : direction z = ((0 : ℝ) : EReal) := by
  have u : Real.arctan z < halfStep := (Real.arctan_mono h2).trans_lt arctan_low
  have l : -(3 * halfStep) < Real.arctan z := by
    have := Real.arctan_mono h1
    rw [Real.arctan_neg] at this
    linarith [arctan_high]
  have hs : 0 < halfStep := by unfold halfStep; norm_num
  by_cases hm : -halfStep < Real.arctan z
  · rw [direction_eq z 0 (by push_cast; linarith) (by push_cast; linarith)]
    rw [Ideal.remf_coe, if_neg (by norm_num), truncInt_one _ (by norm_num) (by norm_num)]
    rw [Ideal.remf_coe, if_neg (by norm_num), truncInt_small _ (by norm_num) (by norm_num)]
    norm_num
  · by_cases he : Real.arctan z < -halfStep
    · rw [direction_eq z (-1) (by push_cast; linarith) (by push_cast; linarith)]
      rw [Ideal.remf_coe, if_neg (by norm_num), truncInt_small _ (by norm_num) (by norm_num)]
      rw [Ideal.remf_coe, if_neg (by norm_num), truncInt_one _ (by norm_num) (by norm_num)]
      norm_num
    · have e : Real.arctan z = -halfStep := by linarith
      unfold direction
      rw [lit_pi, lit_five_div_pi, lit_five, lit_four]
      have hz : Ideal.atan (z : EReal) = ((Real.arctan z : ℝ) : EReal) := rfl
      rw [hz, e, Ideal.remf_coe, if_neg (by norm_num), truncInt_small _ (by unfold halfStep; norm_num) (by unfold halfStep; norm_num)]
      have hr : Ideal.roundHalfEven ((-halfStep - 13176795 / 4194304 * ((0 : ℤ) : ℝ)) * (13350884 / 8388608)) = 0 := by
        have : ((-halfStep - 13176795 / 4194304 * ((0 : ℤ) : ℝ)) * (13350884 / 8388608)) = -(1 / 2) := by
          unfold halfStep; norm_num
        rw [this]
        unfold Ideal.roundHalfEven
        have hf : ⌊(-(1 / 2) : ℝ)⌋ = -1 := by rw [Int.floor_eq_iff]; norm_num
        simp only [hf]
        norm_num
      rw [← EReal.coe_mul, Ideal.liftRound_coe, hr, ← EReal.coe_add]
      rw [Ideal.remf_coe, if_neg (by norm_num), truncInt_one _ (by norm_num) (by norm_num)]
      rw [Ideal.remf_coe, if_neg (by norm_num), truncInt_small _ (by norm_num) (by norm_num)]
      norm_num

/-- A slope above the upper threshold has direction number two. -/
theorem direction_steep (z : ℝ) (h : 1.378 ≤ z) : direction z = ((2 : ℝ) : EReal) := by
  have l : 3 * halfStep < Real.arctan z := arctan_top.trans_le (Real.arctan_mono h)
  have u := Real.arctan_lt_pi_div_two z
  have hp := right_angle_lt; unfold halfStep at hp
  rw [direction_eq z 2 (by push_cast; linarith) (by unfold halfStep; push_cast; linarith)]
  rw [Ideal.remf_coe, if_neg (by norm_num), truncInt_one _ (by norm_num) (by norm_num)]
  rw [Ideal.remf_coe, if_neg (by norm_num), truncInt_small _ (by norm_num) (by norm_num)]
  norm_num

/-- A slope between the two thresholds has direction number one. -/
theorem direction_rising (z : ℝ) (h1 : 0.333 ≤ z) (h2 : z ≤ 1.3755) : direction z = ((1 : ℝ) : EReal) := by
  have l : halfStep < Real.arctan z := arctan_mid.trans_le (Real.arctan_mono h1)
  have u : Real.arctan z < 3 * halfStep := (Real.arctan_mono h2).trans_lt arctan_high
  rw [direction_eq z 1 (by push_cast; linarith) (by push_cast; linarith)]
  rw [Ideal.remf_coe, if_neg (by norm_num), truncInt_one _ (by norm_num) (by norm_num)]
  rw [Ideal.remf_coe, if_neg (by norm_num), truncInt_small _ (by norm_num) (by norm_num)]
  norm_num

/-- A slope below the negative upper threshold has direction number three. -/
theorem direction_falling (z : ℝ) (h : z ≤ -1.378) : direction z = ((3 : ℝ) : EReal) := by
  have u : Real.arctan z < -(3 * halfStep) := by
    have := Real.arctan_mono h
    rw [Real.arctan_neg] at this
    linarith [arctan_top]
  have l := Real.neg_pi_div_two_lt_arctan z
  have hp := right_angle_lt; unfold halfStep at hp
  rw [direction_eq z (-2) (by unfold halfStep; push_cast; linarith) (by push_cast; linarith)]
  rw [Ideal.remf_coe, if_neg (by norm_num), truncInt_small _ (by norm_num) (by norm_num)]
  rw [Ideal.remf_coe, if_neg (by norm_num), truncInt_small _ (by norm_num) (by norm_num)]
  norm_num

/-! ## The slopes that occur -/

/-- The slope of integers `n` and `d`, the denominator shifted off zero. -/
def slope (n d : ℤ) : ℝ := (n : ℝ) / ((d : ℝ) + 1 / 131072)

/-- The shifted denominator is never zero. -/
theorem shifted_ne_zero (d : ℤ) : ((d : ℝ) + 1 / 131072) ≠ 0 := by
  intro h
  have h1 : (131072 * d + 1 : ℝ) = 0 := by linarith
  have h2 : (131072 * d + 1 : ℤ) = 0 := by exact_mod_cast h1
  omega

/-- No multiple of a small integer falls strictly between the two multiples of a shifted small integer. -/
def GapAt (a b : ℤ) (n d : ℤ) : Prop :=
  if 0 ≤ d then 131072 * 10000 * n ≤ a * (131072 * d + 1) ∨ b * (131072 * d + 1) ≤ 131072 * 10000 * n
  else a * (131072 * d + 1) ≤ 131072 * 10000 * n ∨ 131072 * 10000 * n ≤ b * (131072 * d + 1)

instance (a b n d : ℤ) : Decidable (GapAt a b n d) := by unfold GapAt; infer_instance

/-- The gap in integers is the gap of the slope. -/
theorem slope_gap_of (a b n d : ℤ) (h : GapAt a b n d) :
    slope n d ≤ (a : ℝ) / 10000 ∨ (b : ℝ) / 10000 ≤ slope n d := by
  unfold GapAt at h
  unfold slope
  by_cases hd : 0 ≤ d
  · rw [if_pos hd] at h
    have hd' : (0 : ℝ) ≤ d := by exact_mod_cast hd
    have hp : (0 : ℝ) < d + 1 / 131072 := by linarith
    rw [div_le_iff₀ hp, le_div_iff₀ hp]
    refine h.imp (fun h => ?_) (fun h => ?_)
    · have h' : ((131072 * 10000 * n : ℤ) : ℝ) ≤ ((a * (131072 * d + 1) : ℤ) : ℝ) := by exact_mod_cast h
      push_cast at h'; linarith
    · have h' : ((b * (131072 * d + 1) : ℤ) : ℝ) ≤ ((131072 * 10000 * n : ℤ) : ℝ) := by exact_mod_cast h
      push_cast at h'; linarith
  · rw [if_neg hd] at h
    have hd' : (d : ℝ) ≤ -1 := by exact_mod_cast (by omega : d ≤ -1)
    have hp : (d : ℝ) + 1 / 131072 < 0 := by linarith
    rw [div_le_iff_of_neg hp, le_div_iff_of_neg hp]
    refine h.imp (fun h => ?_) (fun h => ?_)
    · have h' : ((a * (131072 * d + 1) : ℤ) : ℝ) ≤ ((131072 * 10000 * n : ℤ) : ℝ) := by exact_mod_cast h
      push_cast at h'; linarith
    · have h' : ((131072 * 10000 * n : ℤ) : ℝ) ≤ ((b * (131072 * d + 1) : ℤ) : ℝ) := by exact_mod_cast h
      push_cast at h'; linarith

/-- The three gaps, over every pair of integers of magnitude at most 32. -/
theorem gaps_table : ∀ n d : Fin 65, GapAt 3230 3330 ((n : ℕ) - 32 : ℤ) ((d : ℕ) - 32 : ℤ)
    ∧ GapAt 13755 13780 ((n : ℕ) - 32 : ℤ) ((d : ℕ) - 32 : ℤ)
    ∧ GapAt (-13780) (-13755) ((n : ℕ) - 32 : ℤ) ((d : ℕ) - 32 : ℤ) := by
  decide +kernel

/-- The three gaps at integers of magnitude at most 32. -/
theorem gaps (n d : ℤ) (hn : -32 ≤ n ∧ n ≤ 32) (hd : -32 ≤ d ∧ d ≤ 32) :
    GapAt 3230 3330 n d ∧ GapAt 13755 13780 n d ∧ GapAt (-13780) (-13755) n d := by
  have h := gaps_table ⟨(n + 32).toNat, by omega⟩ ⟨(d + 32).toNat, by omega⟩
  have e1 : (((n + 32).toNat : ℕ) - 32 : ℤ) = n := by omega
  have e2 : (((d + 32).toNat : ℕ) - 32 : ℤ) = d := by omega
  simpa only [e1, e2] using h

/-- The kernel's lower threshold. -/
def lowT : ℝ := 10902496 / 33554432
/-- The kernel's upper threshold. -/
def highT : ℝ := 11545928 / 8388608

/-- The kernel's lower threshold literal. -/
theorem lit_low : Ideal.ofBits .f32 0x3EA65BE0#32 = ((lowT : ℝ) : EReal) := by
  unfold lowT; simp [Ideal.ofBits, Ideal.ieee, -EReal.coe_mul]; norm_num
/-- The kernel's upper threshold literal. -/
theorem lit_high : Ideal.ofBits .f32 0x3FB02D48#32 = ((highT : ℝ) : EReal) := by
  unfold highT; simp [Ideal.ofBits, Ideal.ieee, -EReal.coe_mul]; norm_num
/-- The kernel's negated upper threshold literal. -/
theorem lit_neg_high : Ideal.ofBits .f32 0xBFB02D48#32 = ((-highT : ℝ) : EReal) := by
  unfold highT; simp [Ideal.ofBits, Ideal.ieee, -EReal.coe_mul]; norm_num

/-- At the slopes that occur the reference's direction number is zero exactly where the kernel's two comparisons call
    the edge horizontal. -/
theorem direction_eq_zero_iff (n d : ℤ) (hn : -32 ≤ n ∧ n ≤ 32) (hd : -32 ≤ d ∧ d ≤ 32) :
    direction (slope n d : ℝ) = 0 ↔ -highT ≤ slope n d ∧ slope n d < lowT := by
  obtain ⟨g1, g2, g3⟩ := gaps n d hn hd
  have s1 := slope_gap_of _ _ _ _ g1
  have s2 := slope_gap_of _ _ _ _ g2
  have s3 := slope_gap_of _ _ _ _ g3
  push_cast at s1 s2 s3
  generalize slope n d = z at s1 s2 s3 ⊢
  unfold highT lowT
  rcases s3 with s3 | s3
  · rw [direction_falling z (by norm_num at s3 ⊢; linarith)]
    refine iff_of_false (by norm_num) ?_
    rintro ⟨h, -⟩; norm_num at s3 h; linarith
  · rcases s1 with s1 | s1
    · rw [direction_flat z (by norm_num at s3 ⊢; linarith) (by norm_num at s1 ⊢; linarith)]
      refine iff_of_true rfl ⟨?_, ?_⟩
      · norm_num at s3 ⊢; linarith
      · norm_num at s1 ⊢; linarith
    · rcases s2 with s2 | s2
      · rw [direction_rising z (by norm_num at s1 ⊢; linarith) (by norm_num at s2 ⊢; linarith)]
        refine iff_of_false (by exact_mod_cast (by norm_num : (1 : ℝ) ≠ 0)) ?_
        rintro ⟨-, h⟩; norm_num at s1 h; linarith
      · rw [direction_steep z (by norm_num at s2 ⊢; linarith)]
        refine iff_of_false (by exact_mod_cast (by norm_num : (2 : ℝ) ≠ 0)) ?_
        rintro ⟨-, h⟩; norm_num at s1 h; linarith

/-- At the slopes that occur the reference's direction number is two exactly where the kernel's comparison calls the
    edge vertical. -/
theorem direction_eq_two_iff (n d : ℤ) (hn : -32 ≤ n ∧ n ≤ 32) (hd : -32 ≤ d ∧ d ≤ 32) :
    direction (slope n d : ℝ) = ((2 : ℝ) : EReal) ↔ highT ≤ slope n d := by
  obtain ⟨g1, g2, g3⟩ := gaps n d hn hd
  have s1 := slope_gap_of _ _ _ _ g1
  have s2 := slope_gap_of _ _ _ _ g2
  have s3 := slope_gap_of _ _ _ _ g3
  push_cast at s1 s2 s3
  generalize slope n d = z at s1 s2 s3 ⊢
  unfold highT
  rcases s2 with s2 | s2
  · refine iff_of_false ?_ (by intro h; norm_num at s2 h; linarith)
    rcases s3 with s3 | s3
    · rw [direction_falling z (by norm_num at s3 ⊢; linarith)]
      exact_mod_cast (by norm_num : (3 : ℝ) ≠ 2)
    · rcases s1 with s1 | s1
      · rw [direction_flat z (by norm_num at s3 ⊢; linarith) (by norm_num at s1 ⊢; linarith)]
        exact_mod_cast (by norm_num : (0 : ℝ) ≠ 2)
      · rw [direction_rising z (by norm_num at s1 ⊢; linarith) (by norm_num at s2 ⊢; linarith)]
        exact_mod_cast (by norm_num : (1 : ℝ) ≠ 2)
  · rw [direction_steep z (by norm_num at s2 ⊢; linarith)]
    refine iff_of_true rfl (by norm_num at s2 ⊢; linarith)

end Cert.Proof

end
-- ==== Proof.Spec.lean ====
module

public import proofs.«01_k».proof.Proof.Direction

@[expose] public section

/-! # The loss, written once

The integer stencils of the label mask, the slope of the edge at a pixel, the pixel's term of the loss and the loss
itself, over indices that are natural numbers. The kernel and the reference are each shown equal to this. -/

noncomputable section

namespace Cert.Proof

open Idealize.ShloMosaic

/-! ## The stencils -/

/-- Binomial smoothing of a row: weights 1 4 6 4 1. -/
def rowSmooth (M : ℕ → ℕ → ℤ) (r c : ℕ) : ℤ := M r (c - 2) + M r (c + 2) + 4 * (M r (c - 1) + M r (c + 1)) + 6 * M r c
/-- Second difference of a row at distance two: weights 1 0 -2 0 1. -/
def rowSecond (M : ℕ → ℕ → ℤ) (r c : ℕ) : ℤ := M r (c - 2) + M r (c + 2) - 2 * M r c
/-- Smoothed first difference of a row: weights -1 -2 0 2 1. -/
def rowFirst (M : ℕ → ℕ → ℤ) (r c : ℕ) : ℤ := M r (c + 2) - M r (c - 2) + 2 * (M r (c + 1) - M r (c - 1))

/-- Sixty-four times the second derivative along the columns. -/
def gradXX (M : ℕ → ℕ → ℤ) (r c : ℕ) : ℤ :=
  rowSecond M (r - 2) c + rowSecond M (r + 2) c + 4 * (rowSecond M (r - 1) c + rowSecond M (r + 1) c) + 6 * rowSecond M r c
/-- Sixty-four times the second derivative along the rows. -/
def gradYY (M : ℕ → ℕ → ℤ) (r c : ℕ) : ℤ := rowSmooth M (r - 2) c + rowSmooth M (r + 2) c - 2 * rowSmooth M r c
/-- Minus sixty-four times the mixed second derivative. -/
def gradXY (M : ℕ → ℕ → ℤ) (r c : ℕ) : ℤ :=
  rowFirst M (r - 2) c - rowFirst M (r + 2) c + 2 * (rowFirst M (r - 1) c - rowFirst M (r + 1) c)
/-- The second derivative along the rows, signed by the mixed one. -/
def signedYY (M : ℕ → ℕ → ℤ) (r c : ℕ) : ℤ := if 0 ≤ gradXY M r c then gradYY M r c else -gradYY M r c

/-- The slope of the edge at a pixel. -/
def edgeSlope (M : ℕ → ℕ → ℤ) (r c : ℕ) : ℝ := slope (signedYY M r c) (gradXX M r c)

/-- The second derivatives of a zero-one mask are at most 32 in magnitude. -/
theorem grad_bounds (M : ℕ → ℕ → ℤ) (h : ∀ i j, 0 ≤ M i j ∧ M i j ≤ 1) (r c : ℕ) :
    (-32 ≤ signedYY M r c ∧ signedYY M r c ≤ 32) ∧ -32 ≤ gradXX M r c ∧ gradXX M r c ≤ 32 := by
  have s : ∀ i, 0 ≤ rowSmooth M i c ∧ rowSmooth M i c ≤ 16 := by
    intro i
    have h1 := h i (c - 2); have h2 := h i (c + 2); have h3 := h i (c - 1); have h4 := h i (c + 1); have h5 := h i c
    unfold rowSmooth; constructor <;> linarith [h1.1, h1.2, h2.1, h2.2, h3.1, h3.2, h4.1, h4.2, h5.1, h5.2]
  have d : ∀ i, -2 ≤ rowSecond M i c ∧ rowSecond M i c ≤ 2 := by
    intro i
    have h1 := h i (c - 2); have h2 := h i (c + 2); have h5 := h i c
    unfold rowSecond; constructor <;> linarith [h1.1, h1.2, h2.1, h2.2, h5.1, h5.2]
  have y : -32 ≤ gradYY M r c ∧ gradYY M r c ≤ 32 := by
    have h1 := s (r - 2); have h2 := s (r + 2); have h3 := s r
    unfold gradYY; constructor <;> linarith [h1.1, h1.2, h2.1, h2.2, h3.1, h3.2]
  refine ⟨?_, ?_⟩
  · unfold signedYY
    split_ifs
    · exact y
    · constructor <;> linarith [y.1, y.2]
  · have h1 := d (r - 2); have h2 := d (r + 2); have h3 := d (r - 1); have h4 := d (r + 1); have h5 := d r
    unfold gradXX
    constructor <;> linarith [h1.1, h1.2, h2.1, h2.2, h3.1, h3.2, h4.1, h4.2, h5.1, h5.2]

/-! ## The reference's derivatives -/

/-- The normalized horizontal derivative. -/
def sobelX (M : ℕ → ℕ → ℝ) (r c : ℕ) : ℝ :=
  (-M (r - 1) (c - 1) + M (r - 1) (c + 1) - 2 * M r (c - 1) + 2 * M r (c + 1) - M (r + 1) (c - 1) + M (r + 1) (c + 1)) / 8
/-- The normalized vertical derivative. -/
def sobelY (M : ℕ → ℕ → ℝ) (r c : ℕ) : ℝ :=
  (-M (r - 1) (c - 1) - 2 * M (r - 1) c - M (r - 1) (c + 1) + M (r + 1) (c - 1) + 2 * M (r + 1) c + M (r + 1) (c + 1)) / 8

/-- The mask as reals. -/
def realMask (M : ℕ → ℕ → ℤ) (i j : ℕ) : ℝ := (M i j : ℝ)

/-- The horizontal derivative taken twice. -/
theorem sobel_xx (M : ℕ → ℕ → ℤ) (r c : ℕ) (hr : 2 ≤ r) (hc : 2 ≤ c) :
    sobelX (sobelX (realMask M)) r c = (gradXX M r c : ℝ) / 64 := by
  obtain ⟨r, rfl⟩ := Nat.exists_eq_add_of_le' hr
  obtain ⟨c, rfl⟩ := Nat.exists_eq_add_of_le' hc
  simp only [sobelX, realMask, gradXX, rowSecond, Nat.add_sub_cancel, Nat.reduceAdd, Nat.add_assoc, Nat.reduceSubDiff]
  push_cast
  ring

/-- The vertical derivative taken twice. -/
theorem sobel_yy (M : ℕ → ℕ → ℤ) (r c : ℕ) (hr : 2 ≤ r) (hc : 2 ≤ c) :
    sobelY (sobelY (realMask M)) r c = (gradYY M r c : ℝ) / 64 := by
  obtain ⟨r, rfl⟩ := Nat.exists_eq_add_of_le' hr
  obtain ⟨c, rfl⟩ := Nat.exists_eq_add_of_le' hc
  simp only [sobelY, realMask, gradYY, rowSmooth, Nat.add_sub_cancel, Nat.reduceAdd, Nat.add_assoc, Nat.reduceSubDiff]
  push_cast
  ring

/-- The vertical derivative followed by the horizontal one. -/
theorem sobel_xy (M : ℕ → ℕ → ℤ) (r c : ℕ) (hr : 2 ≤ r) (hc : 2 ≤ c) :
    sobelX (sobelY (realMask M)) r c = -((gradXY M r c : ℝ) / 64) := by
  obtain ⟨r, rfl⟩ := Nat.exists_eq_add_of_le' hr
  obtain ⟨c, rfl⟩ := Nat.exists_eq_add_of_le' hc
  simp only [sobelX, sobelY, realMask, gradXY, rowFirst, Nat.add_sub_cancel, Nat.reduceAdd, Nat.add_assoc, Nat.reduceSubDiff]
  push_cast
  ring

/-- The sign of an integer over 64, moved up by a little, is one from zero on and minus one below. -/
theorem sign_shifted (q : ℤ) : ((SignType.sign ((q : ℝ) / 64 + 1 / 8388608) : SignType) : ℝ) = if 0 ≤ q then 1 else -1 := by
  split_ifs with h
  · have hq : (0 : ℝ) ≤ q := by exact_mod_cast h
    rw [sign_pos (by linarith)]; simp
  · have hq : (q : ℝ) ≤ -1 := by exact_mod_cast (by omega : q ≤ -1)
    rw [sign_neg (by linarith)]; simp

/-- The quotient the reference forms from its derivatives is the slope. -/
theorem ref_slope (M : ℕ → ℕ → ℤ) (r c : ℕ) (hr : 2 ≤ r) (hc : 2 ≤ c) :
    sobelY (sobelY (realMask M)) r c
        * ((SignType.sign (-sobelX (sobelY (realMask M)) r c + 1 / 8388608) : SignType) : ℝ)
        * (1 / (sobelX (sobelX (realMask M)) r c + 1 / 8388608)) = edgeSlope M r c := by
  rw [sobel_xx M r c hr hc, sobel_yy M r c hr hc, sobel_xy M r c hr hc, neg_neg, sign_shifted]
  unfold edgeSlope slope signedYY
  have h := shifted_ne_zero (gradXX M r c)
  have h2 : (gradXX M r c : ℝ) / 64 + 1 / 8388608 ≠ 0 := by intro h0; apply h; linarith
  have e : (gradXX M r c : ℝ) / 64 + 1 / 8388608 = ((gradXX M r c : ℝ) + 1 / 131072) / 64 := by ring
  rw [e]
  split_ifs <;> push_cast <;> field_simp

/-- The denominator the reference divides by is not zero. -/
theorem ref_denominator (M : ℕ → ℕ → ℤ) (r c : ℕ) (hr : 2 ≤ r) (hc : 2 ≤ c) :
    sobelX (sobelX (realMask M)) r c + 1 / 8388608 ≠ 0 := by
  rw [sobel_xx M r c hr hc]
  have h := shifted_ne_zero (gradXX M r c)
  intro h0; apply h; linarith

/-! ## The pixel's term -/

/-- Four neighbours along the row. -/
def sumAcross (E : ℕ → ℕ → EReal) (r c : ℕ) : EReal := E r (c - 2) + E r (c - 1) + E r c + E r (c + 1)
/-- Four neighbours along the column. -/
def sumDown (E : ℕ → ℕ → EReal) (r c : ℕ) : EReal := E (r - 2) c + E (r - 1) c + E r c + E (r + 1) c
/-- Four neighbours along the falling diagonal, as the reference picks them. -/
def sumSlant (E : ℕ → ℕ → EReal) (r c : ℕ) : EReal :=
  E (r - 2) (c + 1) + E (r - 1) c + E r (c - 1) + E (r + 1) (c - 2)

/-- The pixel's term: its exponential over the sum along the edge's normal. -/
def term (E : ℕ → ℕ → EReal) (M : ℕ → ℕ → ℤ) (r c : ℕ) : EReal :=
  Ideal.div (E r c) (if -highT ≤ edgeSlope M r c ∧ edgeSlope M r c < lowT then sumAcross E r c
    else if highT ≤ edgeSlope M r c then sumDown E r c else sumSlant E r c)

/-- A pixel at least two away from every border. -/
def Inner (r c : ℕ) : Prop := (2 ≤ r ∧ r < 510) ∧ 2 ≤ c ∧ c < 510

instance (r c : ℕ) : Decidable (Inner r c) := by unfold Inner; infer_instance

/-- The loss over one image: the sum of the inner pixels' terms. -/
def imageLoss (E : ℕ → ℕ → EReal) (M : ℕ → ℕ → ℤ) : EReal :=
  ∑ r : Fin 512, ∑ c : Fin 512, if Inner r c then term E M r c else 0

/-- The mask of one class in one label image. -/
def maskOf (l : Fin 512 → Fin 512 → BitVec 32) (k : ℕ) (i j : ℕ) : ℤ :=
  if h : i < 512 ∧ j < 512 then (if l ⟨i, h.1⟩ ⟨j, h.2⟩ = BitVec.ofNat 32 k then 1 else 0) else 0

/-- The exponentials of one image. -/
def expOf (p : Fin 512 → Fin 512 → EReal) (i j : ℕ) : EReal :=
  if h : i < 512 ∧ j < 512 then Ideal.exp (p ⟨i, h.1⟩ ⟨j, h.2⟩) else 0

/-- The mask is zero or one. -/
theorem maskOf_bounds (l : Fin 512 → Fin 512 → BitVec 32) (k i j : ℕ) : 0 ≤ maskOf l k i j ∧ maskOf l k i j ≤ 1 := by
  unfold maskOf; split_ifs <;> decide

/-- The mask at an index in range. -/
theorem maskOf_at (l : Fin 512 → Fin 512 → BitVec 32) (k i j : ℕ) (hi : i < 512) (hj : j < 512) :
    maskOf l k i j = if l ⟨i, hi⟩ ⟨j, hj⟩ = BitVec.ofNat 32 k then 1 else 0 := dif_pos ⟨hi, hj⟩

/-- The exponential at an index in range. -/
theorem expOf_at (p : Fin 512 → Fin 512 → EReal) (i j : ℕ) (hi : i < 512) (hj : j < 512) :
    expOf p i j = Ideal.exp (p ⟨i, hi⟩ ⟨j, hj⟩) := dif_pos ⟨hi, hj⟩

end Cert.Proof

end
-- ==== Proof.RefStencil.lean ====
module

public import proofs.«01_k».proof.Proof.Gen.ReferenceIdeal.Run
public import Idealize.ShloMosaic.Lib.Pointwise
public import proofs.«01_k».proof.Proof.Spec

@[expose] public section

/-! # The reference's edge padding and its two derivatives at an index -/

set_option maxRecDepth 16384

noncomputable section

namespace Cert.Proof.Ref

open Idealize.ShloMosaic Idealize.ShloMosaic.TcCoe Idealize.SL.Sem
open Cert.ReferenceIdeal Cert.ReferenceIdeal.Gen Cert.ReferenceIdeal.Value

local notation "Stack" => FVec Ideal S2x19x512x512 FTy.f32
local notation "Rows" => FVec Ideal S2x19x514x512 FTy.f32
local notation "Padded" => FVec Ideal S2x19x514x514 FTy.f32

/-- Repeating the first and the last row. -/
def padRows (x : Stack) : Rows :=
  concatenate S2x19x514x512 2 [⟨S2x19x1x512, extractStridedSlice S2x19x1x512 ![0, 0, 0, 0] x slices_S2x19x512x512_S2x19x1x512_0_0_0_0⟩,
    ⟨S2x19x512x512, x⟩,
    ⟨S2x19x1x512, extractStridedSlice S2x19x1x512 ![0, 0, 511, 0] x slices_S2x19x512x512_S2x19x1x512_0_0_511_0⟩]
    concatenates_S2x19x1x512_S2x19x512x512_S2x19x1x512_S2x19x514x512_d2

/-- Repeating the first and the last column. -/
def padCols (x : Rows) : Padded :=
  concatenate S2x19x514x514 3 [⟨S2x19x514x1, extractStridedSlice S2x19x514x1 ![0, 0, 0, 0] x slices_S2x19x514x512_S2x19x514x1_0_0_0_0⟩,
    ⟨S2x19x514x512, x⟩,
    ⟨S2x19x514x1, extractStridedSlice S2x19x514x1 ![0, 0, 0, 511] x slices_S2x19x514x512_S2x19x514x1_0_0_0_511⟩]
    concatenates_S2x19x514x1_S2x19x514x512_S2x19x514x1_S2x19x514x514_d3

/-- The image with its border repeated once on every side. -/
def edgePad (x : Stack) : Padded := padCols (padRows x)

/-- Away from the added border the padded image is the image, one step off. -/
theorem edgePad_at (x : Stack) (b : Fin 2) (k : Fin 19) (r s : Fin 514) (r' s' : Fin 512) (hr : (r : ℕ) = r' + 1) (hs : (s : ℕ) = s' + 1) :
    edgePad x (ix4 b k r s) = x (ix4 b k r' s') := by
  have h1 := r'.2
  have h2 := s'.2
  pointwise [edgePad, padCols, padRows]
  simp only [show ¬ (r' : ℕ) + 1 < 1 by omega, show ¬ (s' : ℕ) + 1 < 1 by omega, hr, hs, Nat.add_sub_cancel, h1, h2, dite_true, dite_false]

/-- A constant image. -/
def splat (w : BitVec 32) : Stack := broadcastInDim S2x19x512x512 ![] bcast_S_S2x19x512x512 (constant S_ .f32 w)

/-- The normalized horizontal derivative of a padded image. -/
def diffX (y : Padded) : Stack :=
  addf (addf (addf (addf (addf (addf (splat 0x00000000#32)
    (mulf (splat 0xBE000000#32) (extractStridedSlice S2x19x512x512 ![0, 0, 0, 0] y slices_S2x19x514x514_S2x19x512x512_0_0_0_0)))
    (mulf (splat 0x3E000000#32) (extractStridedSlice S2x19x512x512 ![0, 0, 0, 2] y slices_S2x19x514x514_S2x19x512x512_0_0_0_2)))
    (mulf (splat 0xBE800000#32) (extractStridedSlice S2x19x512x512 ![0, 0, 1, 0] y slices_S2x19x514x514_S2x19x512x512_0_0_1_0)))
    (mulf (splat 0x3E800000#32) (extractStridedSlice S2x19x512x512 ![0, 0, 1, 2] y slices_S2x19x514x514_S2x19x512x512_0_0_1_2)))
    (mulf (splat 0xBE000000#32) (extractStridedSlice S2x19x512x512 ![0, 0, 2, 0] y slices_S2x19x514x514_S2x19x512x512_0_0_2_0)))
    (mulf (splat 0x3E000000#32) (extractStridedSlice S2x19x512x512 ![0, 0, 2, 2] y slices_S2x19x514x514_S2x19x512x512_0_0_2_2))

/-- The normalized vertical derivative of a padded image. -/
def diffY (y : Padded) : Stack :=
  addf (addf (addf (addf (addf (addf (splat 0x00000000#32)
    (mulf (splat 0xBE000000#32) (extractStridedSlice S2x19x512x512 ![0, 0, 0, 0] y slices_S2x19x514x514_S2x19x512x512_0_0_0_0)))
    (mulf (splat 0xBE800000#32) (extractStridedSlice S2x19x512x512 ![0, 0, 0, 1] y slices_S2x19x514x514_S2x19x512x512_0_0_0_1)))
    (mulf (splat 0xBE000000#32) (extractStridedSlice S2x19x512x512 ![0, 0, 0, 2] y slices_S2x19x514x514_S2x19x512x512_0_0_0_2)))
    (mulf (splat 0x3E000000#32) (extractStridedSlice S2x19x512x512 ![0, 0, 2, 0] y slices_S2x19x514x514_S2x19x512x512_0_0_2_0)))
    (mulf (splat 0x3E800000#32) (extractStridedSlice S2x19x512x512 ![0, 0, 2, 1] y slices_S2x19x514x514_S2x19x512x512_0_0_2_1)))
    (mulf (splat 0x3E000000#32) (extractStridedSlice S2x19x512x512 ![0, 0, 2, 2] y slices_S2x19x514x514_S2x19x512x512_0_0_2_2))

/-- The literal one eighth. -/
theorem lit_eighth : Ideal.ofBits .f32 0x3E000000#32 = ((1 / 8 : ℝ) : EReal) := by
  simp [Ideal.ofBits, Ideal.ieee, -EReal.coe_mul]; norm_num
/-- The literal minus one eighth. -/
theorem lit_neg_eighth : Ideal.ofBits .f32 0xBE000000#32 = ((-(1 / 8) : ℝ) : EReal) := by
  simp [Ideal.ofBits, Ideal.ieee, -EReal.coe_mul]; norm_num
/-- The literal one quarter. -/
theorem lit_quarter : Ideal.ofBits .f32 0x3E800000#32 = ((1 / 4 : ℝ) : EReal) := by
  simp [Ideal.ofBits, Ideal.ieee, -EReal.coe_mul]; norm_num
/-- The literal minus one quarter. -/
theorem lit_neg_quarter : Ideal.ofBits .f32 0xBE800000#32 = ((-(1 / 4) : ℝ) : EReal) := by
  simp [Ideal.ofBits, Ideal.ieee, -EReal.coe_mul]; norm_num

/-- The image is the real function `M` on the three by three neighbourhood of a pixel. -/
def Near (x : Stack) (M : ℕ → ℕ → ℝ) (b : Fin 2) (k : Fin 19) (r s : ℕ) : Prop :=
  ∀ i j : Fin 512, r ≤ i + 1 → (i : ℕ) ≤ r + 1 → s ≤ j + 1 → (j : ℕ) ≤ s + 1 → x (ix4 b k i j) = ((M i j : ℝ) : EReal)

/-- A padded image's entry, one step off, where the image is `M`. -/
theorem near_pad (x : Stack) (M : ℕ → ℕ → ℝ) (b : Fin 2) (k : Fin 19) (r s : ℕ) (h : Near x M b k r s) (i j : Fin 514)
    (i0 : 1 ≤ (i : ℕ)) (i1 : (i : ℕ) ≤ 512) (j0 : 1 ≤ (j : ℕ)) (j1 : (j : ℕ) ≤ 512) (hi : r ≤ i) (hi' : (i : ℕ) ≤ r + 2) (hj : s ≤ j) (hj' : (j : ℕ) ≤ s + 2) :
    edgePad x (ix4 b k i j) = ((M (i - 1) (j - 1) : ℝ) : EReal) := by
  rw [edgePad_at x b k i j ⟨i - 1, by omega⟩ ⟨j - 1, by omega⟩ (by show (i : ℕ) = i - 1 + 1; omega) (by show (j : ℕ) = j - 1 + 1; omega)]
  refine h _ _ ?_ ?_ ?_ ?_ <;> simp only <;> omega

/-- The horizontal derivative at a pixel off the border. -/
theorem diffX_at (x : Stack) (M : ℕ → ℕ → ℝ) (b : Fin 2) (k : Fin 19) (r s : Fin 512) (r0 : 1 ≤ (r : ℕ)) (r1 : (r : ℕ) ≤ 510)
    (s0 : 1 ≤ (s : ℕ)) (s1 : (s : ℕ) ≤ 510) (h : Near x M b k r s) :
    diffX (edgePad x) (ix4 b k r s) = ((sobelX M r s : ℝ) : EReal) := by
  pointwise [diffX, splat]
  simp only [Nat.add_comm 2, Nat.add_comm 1]
  rw [near_pad x M b k r s h ⟨r, by omega⟩ ⟨s, by omega⟩, near_pad x M b k r s h ⟨r, by omega⟩ ⟨s + 2, by omega⟩,
    near_pad x M b k r s h ⟨r + 1, by omega⟩ ⟨s, by omega⟩, near_pad x M b k r s h ⟨r + 1, by omega⟩ ⟨s + 2, by omega⟩,
    near_pad x M b k r s h ⟨r + 2, by omega⟩ ⟨s, by omega⟩, near_pad x M b k r s h ⟨r + 2, by omega⟩ ⟨s + 2, by omega⟩]
  · rw [lit_eighth, lit_neg_eighth, lit_quarter, lit_neg_quarter]
    simp only [← EReal.coe_mul, ← EReal.coe_add, EReal.coe_eq_coe_iff, Nat.add_sub_cancel,
      show (r : ℕ) + 2 - 1 = r + 1 by omega, show (s : ℕ) + 2 - 1 = s + 1 by omega, sobelX]
    ring
  all_goals (simp only; omega)

/-- The vertical derivative at a pixel off the border. -/
theorem diffY_at (x : Stack) (M : ℕ → ℕ → ℝ) (b : Fin 2) (k : Fin 19) (r s : Fin 512) (r0 : 1 ≤ (r : ℕ)) (r1 : (r : ℕ) ≤ 510)
    (s0 : 1 ≤ (s : ℕ)) (s1 : (s : ℕ) ≤ 510) (h : Near x M b k r s) :
    diffY (edgePad x) (ix4 b k r s) = ((sobelY M r s : ℝ) : EReal) := by
  pointwise [diffY, splat]
  simp only [Nat.add_comm 2, Nat.add_comm 1]
  rw [near_pad x M b k r s h ⟨r, by omega⟩ ⟨s, by omega⟩, near_pad x M b k r s h ⟨r, by omega⟩ ⟨s + 1, by omega⟩,
    near_pad x M b k r s h ⟨r, by omega⟩ ⟨s + 2, by omega⟩, near_pad x M b k r s h ⟨r + 2, by omega⟩ ⟨s, by omega⟩,
    near_pad x M b k r s h ⟨r + 2, by omega⟩ ⟨s + 1, by omega⟩, near_pad x M b k r s h ⟨r + 2, by omega⟩ ⟨s + 2, by omega⟩]
  · rw [lit_eighth, lit_neg_eighth, lit_quarter, lit_neg_quarter]
    simp only [← EReal.coe_mul, ← EReal.coe_add, EReal.coe_eq_coe_iff, Nat.add_sub_cancel,
      show (r : ℕ) + 2 - 1 = r + 1 by omega, show (s : ℕ) + 2 - 1 = s + 1 by omega, sobelY]
    ring
  all_goals (simp only; omega)

end Cert.Proof.Ref

end
-- ==== Proof.RefSlope.lean ====
module

public import proofs.«01_k».proof.Proof.RefStencil

@[expose] public section

/-! # The reference's mask, its slope and its direction at an inner pixel -/

set_option maxRecDepth 16384

noncomputable section

namespace Cert.Proof.Ref

open Idealize.ShloMosaic Idealize.ShloMosaic.TcCoe Idealize.SL.Sem
open Cert.ReferenceIdeal Cert.ReferenceIdeal.Gen Cert.ReferenceIdeal.Value

local notation "Stack" => FVec Ideal S2x19x512x512 FTy.f32

/-- A single bit read as a number, set. -/
theorem bit_one : (FloatOps.uitofp FTy.f32 (1#1) : Ideal .f32) = 1 := by
  show ((((1#1 : BitVec 1).toNat : ℕ) : ℝ) : EReal) = 1
  norm_num
/-- A single bit read as a number, clear. -/
theorem bit_zero : (FloatOps.uitofp FTy.f32 (0#1) : Ideal .f32) = 0 := by
  show ((((0#1 : BitVec 1).toNat : ℕ) : ℝ) : EReal) = 0
  norm_num

variable (V : Valuation τ sig (Elt Ideal))

/-- The labels. -/
abbrev labels : Vec Ideal S2x512x512 .i32 := V (Proc.devRef .tc main_arg1)
/-- The logits. -/
abbrev logits : FVec Ideal S2x19x512x512 .f32 := V (Proc.devRef .tc main_arg0)
/-- The integer mask of one image and one class. -/
abbrev maskAt (b : Fin 2) (k : Fin 19) : ℕ → ℕ → ℤ := maskOf (fun i j => labels V (ix3 b i j)) k.val

/-- The reference's mask is the integer mask. -/
theorem mask_value (b : Fin 2) (k : Fin 19) (r s : Fin 512) :
    (res_main_v7 V : Stack) (ix4 b k r s) = ((realMask (maskAt V b k) r s : ℝ) : EReal) := by
  unfold realMask
  rw [show maskAt V b k r s = _ from maskOf_at _ _ _ _ r.2 s.2]
  pointwise [res_main_v7]
  show (FloatOps.uitofp FTy.f32 (BitVec.ofBool (labels V (ix3 b r s) == BitVec.ofNat 32 k.val)) : Ideal .f32) = _
  by_cases h : labels V (ix3 b r s) = BitVec.ofNat 32 k.val
  · rw [if_pos h, beq_iff_eq.mpr h]
    exact bit_one.trans (by norm_num)
  · rw [if_neg h, beq_eq_false_iff_ne.mpr h]
    exact bit_zero.trans (by norm_num)

/-- The horizontal derivative of the mask. -/
theorem first_x : (res_main_v38 V : Stack) = diffX (edgePad (res_main_v7 V)) := rfl
/-- The vertical derivative of the mask. -/
theorem first_y : (res_main_v69 V : Stack) = diffY (edgePad (res_main_v7 V)) := rfl
/-- The quotient, from the second derivatives. -/
theorem quotient : (res_main_v170 V : Stack)
    = Host.divf (mulf (diffY (edgePad (res_main_v69 V))) (Host.sign (addf (Host.negf (diffX (edgePad (res_main_v69 V)))) (splat 0x34000000#32))))
        (addf (diffX (edgePad (res_main_v38 V))) (splat 0x34000000#32)) := rfl

/-- The mask's neighbourhood. -/
theorem near_mask (b : Fin 2) (k : Fin 19) (r s : ℕ) : Near (res_main_v7 V) (realMask (maskAt V b k)) b k r s :=
  fun i j _ _ _ _ => mask_value V b k i j

/-- The horizontal derivative around an inner pixel. -/
theorem near_x (b : Fin 2) (k : Fin 19) (r s : ℕ) (h : Inner r s) :
    Near (res_main_v38 V) (sobelX (realMask (maskAt V b k))) b k r s := by
  obtain ⟨⟨h0, h1⟩, h2, h3⟩ := h
  intro i j a1 a2 a3 a4
  rw [first_x]
  exact diffX_at _ _ b k i j (by omega) (by omega) (by omega) (by omega) (near_mask V b k i j)

/-- The vertical derivative around an inner pixel. -/
theorem near_y (b : Fin 2) (k : Fin 19) (r s : ℕ) (h : Inner r s) :
    Near (res_main_v69 V) (sobelY (realMask (maskAt V b k))) b k r s := by
  obtain ⟨⟨h0, h1⟩, h2, h3⟩ := h
  intro i j a1 a2 a3 a4
  rw [first_y]
  exact diffY_at _ _ b k i j (by omega) (by omega) (by omega) (by omega) (near_mask V b k i j)

/-- The literal the reference shifts its derivatives by. -/
theorem lit_tiny : Ideal.ofBits .f32 0x34000000#32 = ((1 / 8388608 : ℝ) : EReal) := by
  simp [Ideal.ofBits, Ideal.ieee, -EReal.coe_mul]; norm_num

/-- The quotient at a pixel, from the derivatives there. -/
theorem quotient_form (y1 x1 x2 : Stack) (i : S2x19x512x512.Idx) :
    (Host.divf (mulf y1 (Host.sign (addf (Host.negf x1) (splat 0x34000000#32)))) (addf x2 (splat 0x34000000#32)) : Stack) i
      = Ideal.div (y1 i * Ideal.sign (-x1 i + Ideal.ofBits .f32 0x34000000#32)) (x2 i + Ideal.ofBits .f32 0x34000000#32) := rfl

/-- The reference's quotient at an inner pixel is the slope. -/
theorem quotient_at (b : Fin 2) (k : Fin 19) (r s : Fin 512) (h : Inner r s) :
    (res_main_v170 V : Stack) (ix4 b k r s) = ((edgeSlope (maskAt V b k) r s : ℝ) : EReal) := by
  have hx := near_x V b k r s h
  have hy := near_y V b k r s h
  obtain ⟨⟨h0, h1⟩, h2, h3⟩ := h
  rw [quotient, quotient_form, diffY_at _ _ b k r s (by omega) (by omega) (by omega) (by omega) hy,
    diffX_at _ _ b k r s (by omega) (by omega) (by omega) (by omega) hy,
    diffX_at _ _ b k r s (by omega) (by omega) (by omega) (by omega) hx, lit_tiny, ← ref_slope (maskAt V b k) r s h0 h2]
  simp only [← EReal.coe_neg, ← EReal.coe_add, Ideal.sign_coe]
  rw [Ideal.div_coe (ref_denominator (maskAt V b k) r s h0 h2)]
  simp only [← EReal.coe_mul]

/-- The reference's direction number of its quotient. -/
theorem direction_at (i : S2x19x512x512.Idx) (z : ℝ) (h : (res_main_v170 V : Stack) i = (z : EReal)) :
    (res_main_v179 V : Stack) i = direction (z : EReal) := by
  rw [← h]
  rfl

end Cert.Proof.Ref

end
-- ==== Proof.Interior.lean ====
module

public import Idealize.ShloMosaic.Lib.Pointwise
public import Idealize.ShloMosaic.Lib.Routing.OpsSet
public import Idealize.ShloMosaic.Lib.Routing.OpsOne
public import proofs.«01_k».proof.Proof.Spec

@[expose] public section

/-! # The interior mask: a constant written into the middle of a constant image -/

set_option maxRecDepth 16384

noncomputable section

namespace Cert.Proof

open Idealize.ShloMosaic Idealize.ShloMosaic.TcCoe Idealize.SL.Sem
open Idealize.ShloMosaic.Routing (shape1 shape2 start_pair resultIdx?_ix2 scatter_set_hit scatter_set_miss)

/-- The dimension numbers of writing a 508 by 508 box into a 512 by 512 image at a pair of index words. -/
def boxDims (wf : ScatterDims.WF (shape2 512 512) (shape1 2) (shape2 508 508) [0, 1] [] [0, 1] 0) :
    ScatterDims (shape2 512 512) (shape1 2) (shape2 508 508) where
  updateWindowDims := [0, 1]
  insertedWindowDims := []
  scatterDimsToOperandDims := [0, 1]
  indexVectorDim := 0
  wf := wf

/-- The library's two spellings of a pair of coordinates agree. -/
theorem pair_spelling {R C : ℕ} (r : Fin R) (c : Fin C) :
    (ix2 r c : (shape2 R C).Idx) = Idealize.ShloMosaic.ValueIdx.ix2 r c := Idealize.ShloMosaic.ValueIdx.eq_ix2 _

/-- The library's two spellings of one coordinate agree. -/
theorem single_spelling {R : ℕ} (r : Fin R) :
    (ix1 r : (shape1 R).Idx) = Idealize.ShloMosaic.ValueIdx.ix1 r := Idealize.ShloMosaic.ValueIdx.eq_ix1 _

/-- Entry `(a, b)` of the box lands two rows down and two columns right. -/
theorem lands_box (wf) (idx : IVec (shape1 2) 32) (hi : ∀ q, idx (ix1 q) = 2#32) (a b : Fin 508) (r c : Fin 512) :
    (boxDims wf).resultIdx? (ix2 a b) idx = some (ix2 r c) ↔ a.val + 2 = r.val ∧ b.val + 2 = c.val := by
  have w0 : (boxDims wf).window (ix2 a b) 0 = a.val := rfl
  have w1 : (boxDims wf).window (ix2 a b) 1 = b.val := rfl
  have two : (2#32 : BitVec 32).toInt = 2 := by decide
  rw [pair_spelling r c, resultIdx?_ix2, start_pair _ rfl rfl, start_pair _ rfl rfl, w0, w1, ← single_spelling,
    ← single_spelling, hi, hi, two]
  omega

/-- Writing a constant box at (2, 2): the constant inside, the old entry on the border. -/
theorem box_at {α : Type} (wf) (x0 : (shape2 512 512).Idx → α) (idx : IVec (shape1 2) 32) (hi : ∀ q, idx (ix1 q) = 2#32)
    (upd : (shape2 508 508).Idx → α) (v : α) (hv : ∀ k, upd k = v) (r c : Fin 512) :
    Host.scatter (boxDims wf) (fun _ b => b) x0 idx upd (ix2 r c) = if Inner r c then v else x0 (ix2 r c) := by
  by_cases h : Inner r c
  · rw [if_pos h]
    obtain ⟨⟨h0, h1⟩, h2, h3⟩ := h
    exact scatter_set_hit _ x0 idx upd _ v (fun k _ => hv k) (ix2 ⟨r.val - 2, by omega⟩ ⟨c.val - 2, by omega⟩)
      ((lands_box wf idx hi _ _ r c).2 ⟨by show r.val - 2 + 2 = r.val; omega, by show c.val - 2 + 2 = c.val; omega⟩)
  · rw [if_neg h]
    refine scatter_set_miss _ x0 idx upd _ fun k hk => h ?_
    rw [eq_ix2 k] at hk
    have q := (lands_box wf idx hi (k 0) (k 1) r c).1 hk
    have b0 : (k 0).val < 508 := (k 0).2
    have b1 : (k 1).val < 508 := (k 1).2
    unfold Inner
    omega

end Cert.Proof

end
-- ==== Proof.RefValue.lean ====
module

public import proofs.«01_k».proof.Proof.RefSlope
public import proofs.«01_k».proof.Proof.Interior

@[expose] public section

/-! # The reference's result -/

set_option maxRecDepth 16384

noncomputable section

namespace Cert.Proof.Ref

open Idealize.ShloMosaic Idealize.ShloMosaic.TcCoe Idealize.SL.Sem
open Cert.ReferenceIdeal Cert.ReferenceIdeal.Gen Cert.ReferenceIdeal.Value

local notation "Stack" => FVec Ideal S2x19x512x512 FTy.f32
local notation "Wide" => FVec Ideal S2x19x516x516 FTy.f32

variable (V : Valuation τ sig (Elt Ideal))

/-- The exponentials of one image and one class. -/
abbrev expAt (b : Fin 2) (k : Fin 19) : ℕ → ℕ → EReal := expOf fun i j => logits V (ix4 b k i j)

/-- The padded exponentials, two steps off, inside the added border. -/
theorem wide_at (b : Fin 2) (k : Fin 19) (i j : Fin 516) (i0 : 2 ≤ (i : ℕ)) (i1 : (i : ℕ) < 514) (j0 : 2 ≤ (j : ℕ)) (j1 : (j : ℕ) < 514) :
    (res_main_v181 V : Wide) (ix4 b k i j) = expAt V b k (i - 2) (j - 2) := by
  rw [show expAt V b k (i - 2) (j - 2) = _ from expOf_at _ _ _ (by omega) (by omega)]
  pointwise [res_main_v181, res_main_v180]
  refine dif_pos fun a => ?_
  fin_cases a
  · exact ⟨Nat.zero_le _, Nat.mod_one _, by show (b.val - 0) / (0 + 1) < 2; omega⟩
  · exact ⟨Nat.zero_le _, Nat.mod_one _, by show (k.val - 0) / (0 + 1) < 19; omega⟩
  · exact ⟨i0, Nat.mod_one _, by show (i.val - 2) / (0 + 1) < 512; omega⟩
  · exact ⟨j0, Nat.mod_one _, by show (j.val - 2) / (0 + 1) < 512; omega⟩

/-- The reference's three-way choice of terms. -/
def choose (d e : Stack) (w : Wide) : Stack :=
  select (cmpf .oeq d (splat 0x00000000#32))
    (Host.divf e (addf (addf (addf (addf (splat 0x00000000#32)
      (extractStridedSlice S2x19x512x512 ![0, 0, 2, 0] w slices_S2x19x516x516_S2x19x512x512_0_0_2_0))
      (extractStridedSlice S2x19x512x512 ![0, 0, 2, 1] w slices_S2x19x516x516_S2x19x512x512_0_0_2_1))
      (extractStridedSlice S2x19x512x512 ![0, 0, 2, 2] w slices_S2x19x516x516_S2x19x512x512_0_0_2_2))
      (extractStridedSlice S2x19x512x512 ![0, 0, 2, 3] w slices_S2x19x516x516_S2x19x512x512_0_0_2_3)))
    (select (cmpf .oeq d (splat 0x40000000#32))
      (Host.divf e (addf (addf (addf (addf (splat 0x00000000#32)
        (extractStridedSlice S2x19x512x512 ![0, 0, 0, 2] w slices_S2x19x516x516_S2x19x512x512_0_0_0_2))
        (extractStridedSlice S2x19x512x512 ![0, 0, 1, 2] w slices_S2x19x516x516_S2x19x512x512_0_0_1_2))
        (extractStridedSlice S2x19x512x512 ![0, 0, 2, 2] w slices_S2x19x516x516_S2x19x512x512_0_0_2_2))
        (extractStridedSlice S2x19x512x512 ![0, 0, 3, 2] w slices_S2x19x516x516_S2x19x512x512_0_0_3_2)))
      (Host.divf e (addf (addf (addf (addf (splat 0x00000000#32)
        (extractStridedSlice S2x19x512x512 ![0, 0, 0, 3] w slices_S2x19x516x516_S2x19x512x512_0_0_0_3))
        (extractStridedSlice S2x19x512x512 ![0, 0, 1, 2] w slices_S2x19x516x516_S2x19x512x512_0_0_1_2))
        (extractStridedSlice S2x19x512x512 ![0, 0, 2, 1] w slices_S2x19x516x516_S2x19x512x512_0_0_2_1))
        (extractStridedSlice S2x19x512x512 ![0, 0, 3, 0] w slices_S2x19x516x516_S2x19x512x512_0_0_3_0))))

/-- The interior: a bit image set at pixels two away from the border. -/
def inside : IVec S512x512 1 :=
  Host.scatter scatter_S512x512_S2_S508x508_01_n_01_0 (fun _ b => b) (broadcastInDim S512x512 ![] bcast_S_S512x512 (constantI S_ 1 0#1))
    (concatenate S2 0 [⟨S1, broadcastInDim S1 ![] bcast_S_S1 (constantI S_ 32 2#32)⟩, ⟨S1, broadcastInDim S1 ![] bcast_S_S1 (constantI S_ 32 2#32)⟩]
      concatenates_S1_S1_S2_d0) (broadcastInDim S508x508 ![] bcast_S_S508x508 (constantI S_ 1 1#1))

/-- The interior at a pixel. -/
theorem inside_at (r s : Fin 512) : inside (ix2 r s) = if Inner r s then 1#1 else 0#1 := by
  unfold inside
  refine (box_at _ _ _ ?_ _ 1#1 (fun _ => rfl) r s).trans rfl
  intro q
  pointwise
  split_ifs <;> rfl

/-- The terms kept inside. -/
def kept (x : Stack) : Stack :=
  select (broadcastInDim S2x19x512x512 ![2, 3] bcast_S512x512_S2x19x512x512_2_3 inside) x (splat 0x00000000#32)

/-- A kept term at a pixel. -/
theorem kept_at (x : Stack) (b : Fin 2) (k : Fin 19) (r s : Fin 512) :
    kept x (ix4 b k r s) = if Inner r s then x (ix4 b k r s) else 0 := by
  have e : ∀ B : IVec S512x512 1, (select (broadcastInDim S2x19x512x512 ![2, 3] bcast_S512x512_S2x19x512x512_2_3 B) x (splat 0x00000000#32) : Stack)
      (ix4 b k r s) = if B (ix2 r s) = 1#1 then x (ix4 b k r s) else 0 := by
    intro B
    pointwise [splat]
    rfl
  unfold kept
  rw [e, inside_at]
  by_cases h : Inner r s <;> simp [h]

/-- The reference's closing sum over everything. -/
theorem sum_all (x : Stack) (j : S_.Idx) :
    (Host.reduceAdd x (constant (F := Ideal) S_ .f32 0x00000000#32) reducesTo_S2x19x512x512_S_d0_1_2_3 h_S_ : FVec Ideal S_ .f32) j
      = ∑ b : Fin 2, ∑ k : Fin 19, ∑ r : Fin 512, ∑ s : Fin 512, x (ix4 b k r s) := by
  rw [show ∀ z : FVec Ideal S_ .f32, Host.reduceAdd x z reducesTo_S2x19x512x512_S_d0_1_2_3 h_S_ j
      = Ideal.hostReduceAdd reducesTo_S2x19x512x512_S_d0_1_2_3 x (z (Shape.Idx.first h_S_)) j from fun _ => rfl,
    Ideal.hostReduceAdd_total _ (fun a => a.elim0), sum_idx4]
  exact (congrArg (· + _) Ideal.ofBits_zero_f32).trans (zero_add _)

/-- The reference's literal two. -/
theorem lit_two : Ideal.ofBits .f32 0x40000000#32 = ((2 : ℝ) : EReal) := by
  simp [Ideal.ofBits, Ideal.ieee, -EReal.coe_mul]; norm_num

/-- The choice of terms at a pixel, spelled out. -/
theorem choose_form (d e : Stack) (w : Wide) (b : Fin 2) (k : Fin 19) (r s : Fin 512) : choose d e w (ix4 b k r s) =
      if d (ix4 b k r s) = 0 then
        Ideal.div (e (ix4 b k r s)) (w (ix4 b k ⟨r + 2, by omega⟩ ⟨s, by omega⟩)
          + w (ix4 b k ⟨r + 2, by omega⟩ ⟨s + 1, by omega⟩) + w (ix4 b k ⟨r + 2, by omega⟩ ⟨s + 2, by omega⟩)
          + w (ix4 b k ⟨r + 2, by omega⟩ ⟨s + 3, by omega⟩))
      else if d (ix4 b k r s) = ((2 : ℝ) : EReal) then
        Ideal.div (e (ix4 b k r s)) (w (ix4 b k ⟨r, by omega⟩ ⟨s + 2, by omega⟩)
          + w (ix4 b k ⟨r + 1, by omega⟩ ⟨s + 2, by omega⟩) + w (ix4 b k ⟨r + 2, by omega⟩ ⟨s + 2, by omega⟩)
          + w (ix4 b k ⟨r + 3, by omega⟩ ⟨s + 2, by omega⟩))
      else
        Ideal.div (e (ix4 b k r s)) (w (ix4 b k ⟨r, by omega⟩ ⟨s + 3, by omega⟩)
          + w (ix4 b k ⟨r + 1, by omega⟩ ⟨s + 2, by omega⟩) + w (ix4 b k ⟨r + 2, by omega⟩ ⟨s + 1, by omega⟩)
          + w (ix4 b k ⟨r + 3, by omega⟩ ⟨s, by omega⟩)) := by
  pointwise [choose, splat]
  simp only [Nat.add_comm 3, Nat.add_comm 2, Nat.add_comm 1, lit_two]

/-- The chosen term at an inner pixel. -/
theorem choose_at (b : Fin 2) (k : Fin 19) (r s : Fin 512) (h : Inner r s) :
    choose (res_main_v179 V) (res_main_v180 V) (res_main_v181 V) (ix4 b k r s) = term (expAt V b k) (maskAt V b k) r s := by
  have hq := direction_at V _ _ (quotient_at V b k r s h)
  obtain ⟨⟨h0, h1⟩, h2, h3⟩ := h
  have hexp : (res_main_v180 V : Stack) (ix4 b k r s) = expAt V b k r s :=
    (expOf_at (fun i j => logits V (ix4 b k i j)) r s r.2 s.2).symm
  have hb := grad_bounds (maskAt V b k) (maskOf_bounds _ _) r s
  rw [choose_form]
  rw [hq, hexp]
  unfold edgeSlope
  simp only [direction_eq_zero_iff _ _ hb.1 hb.2, direction_eq_two_iff _ _ hb.1 hb.2]
  unfold term sumAcross sumDown sumSlant edgeSlope
  have w := fun (i j : ℕ) (hi : i < 516) (hj : j < 516) i0 i1 j0 j1 => wide_at V b k ⟨i, hi⟩ ⟨j, hj⟩ i0 i1 j0 j1
  simp only at w
  rw [w (r + 2) s (by omega) (by omega) (by omega) (by omega) (by omega) (by omega),
    w (r + 2) (s + 1) (by omega) (by omega) (by omega) (by omega) (by omega) (by omega),
    w (r + 2) (s + 2) (by omega) (by omega) (by omega) (by omega) (by omega) (by omega),
    w (r + 2) (s + 3) (by omega) (by omega) (by omega) (by omega) (by omega) (by omega),
    w r (s + 2) (by omega) (by omega) (by omega) (by omega) (by omega) (by omega),
    w (r + 1) (s + 2) (by omega) (by omega) (by omega) (by omega) (by omega) (by omega),
    w (r + 3) (s + 2) (by omega) (by omega) (by omega) (by omega) (by omega) (by omega),
    w r (s + 3) (by omega) (by omega) (by omega) (by omega) (by omega) (by omega),
    w (r + 3) s (by omega) (by omega) (by omega) (by omega) (by omega) (by omega)]
  simp only [Nat.add_sub_cancel, show ∀ n : ℕ, n + 3 - 2 = n + 1 from fun n => rfl, show ∀ n : ℕ, n + 1 - 2 = n - 1 from fun n => by omega]
  split_ifs <;> rfl

end Cert.Proof.Ref

end
-- ==== Proof.KernelPixel.lean ====
module

public import proofs.«01_k».proof.KernelIdeal
public import proofs.«01_k».proof.Proof.Gen.KernelIdeal.Skeleton
public import Idealize.ShloMosaic.Lib.Pointwise
public import proofs.«01_k».proof.Proof.Spec

@[expose] public section

/-! # What the kernel's body computes at an inner pixel -/

set_option maxRecDepth 16384

noncomputable section

namespace Cert.Proof

open Idealize.ShloMosaic Idealize.ShloMosaic.TcCoe Idealize.SL.Sem
open Cert.KernelIdeal Cert.KernelIdeal.Gen

local notation "Img" => FVec Ideal S512x512 FTy.bf16

/-- The kernel's literal 2. -/
theorem lit_two_bf16 : Ideal.ofBits .bf16 0x4000#16 = ((2 : ℝ) : EReal) := by
  simp [Ideal.ofBits, Ideal.ieee, -EReal.coe_mul]; norm_num
/-- The kernel's literal 4. -/
theorem lit_four_bf16 : Ideal.ofBits .bf16 0x4080#16 = ((4 : ℝ) : EReal) := by
  simp [Ideal.ofBits, Ideal.ieee, -EReal.coe_mul]; norm_num
/-- The kernel's literal 6. -/
theorem lit_six_bf16 : Ideal.ofBits .bf16 0x40C0#16 = ((6 : ℝ) : EReal) := by
  simp [Ideal.ofBits, Ideal.ieee, -EReal.coe_mul]; norm_num
/-- The kernel's shift of the denominator. -/
theorem lit_shift : Ideal.ofBits .f32 0x37000000#32 = ((1 / 131072 : ℝ) : EReal) := by
  simp [Ideal.ofBits, Ideal.ieee, -EReal.coe_mul]; norm_num

/-- An integer as an extended real. -/
def ofZ (n : ℤ) : EReal := ((n : ℝ) : EReal)

/-- Integers add as extended reals. -/
theorem ofZ_add (a b : ℤ) : ofZ a + ofZ b = ofZ (a + b) := by unfold ofZ; rw [← EReal.coe_add]; push_cast; rfl
/-- Integers subtract as extended reals. -/
theorem ofZ_sub (a b : ℤ) : ofZ a - ofZ b = ofZ (a - b) := by unfold ofZ; rw [← EReal.coe_sub]; push_cast; rfl
/-- Twice an integer. -/
theorem two_mul_ofZ (a : ℤ) : ((2 : ℝ) : EReal) * ofZ a = ofZ (2 * a) := by unfold ofZ; rw [← EReal.coe_mul]; push_cast; rfl
/-- Four times an integer. -/
theorem four_mul_ofZ (a : ℤ) : ((4 : ℝ) : EReal) * ofZ a = ofZ (4 * a) := by unfold ofZ; rw [← EReal.coe_mul]; push_cast; rfl
/-- Six times an integer. -/
theorem six_mul_ofZ (a : ℤ) : ((6 : ℝ) : EReal) * ofZ a = ofZ (6 * a) := by unfold ofZ; rw [← EReal.coe_mul]; push_cast; rfl
/-- Zero minus an integer is its negation. -/
theorem zero_sub_ofZ (a : ℤ) : 0 - ofZ a = ofZ (-a) := by
  unfold ofZ; rw [zero_sub, ← EReal.coe_neg]; push_cast; rfl
/-- An integer is nonnegative exactly when its extended real is. -/
theorem ofZ_nonneg (a : ℤ) : 0 ≤ ofZ a ↔ 0 ≤ a := by
  unfold ofZ; rw [← EReal.coe_zero, EReal.coe_le_coe_iff]; exact_mod_cast Iff.rfl

/-- The word one converts to the number one. -/
theorem one_word : (FloatOps.sitofp FTy.f32 (1#32) : Ideal .f32) = 1 := by
  show ((((1#32 : BitVec 32).toInt : ℤ) : ℝ) : EReal) = 1
  norm_num
/-- The word zero converts to the number zero. -/
theorem zero_word : (FloatOps.sitofp FTy.f32 (0#32) : Ideal .f32) = 0 := by
  show ((((0#32 : BitVec 32).toInt : ℤ) : ℝ) : EReal) = 0
  norm_num

/-- The kernel's mask at a pixel: one where the label is the grid point's class. -/
theorem mask_at (i : grid0.Coords) (v4 : Vec Ideal S1x512x512 .i32) (r c : Fin 512) :
    k0_pay3 i v4 (ix2 r c) = ofZ (maskOf (fun a b => v4 (ix3 0 a b)) (i 0).val r c) := by
  rw [maskOf_at _ _ _ _ r.2 c.2]
  pointwise [k0_pay3]
  by_cases h : v4 (ix3 0 r c) = BitVec.ofNat 32 (i 0).val
  · rw [if_pos h, h]
    simp [IntOp.cmpi, ofZ]
    exact one_word
  · rw [if_neg h]
    have : IntOp.cmpi CmpIPredicate.eq (v4 (ix3 0 r c)) (BitVec.ofNat 32 (i 0).val) = 0#1 := by
      show BitVec.ofBool (v4 (ix3 0 r c) == BitVec.ofNat 32 (i 0).val) = 0#1
      rw [beq_eq_false_iff_ne.mpr h]; rfl
    rw [this]
    simp [ofZ]
    exact zero_word

section stencil

variable (i : grid0.Coords) (v4 : Vec Ideal S1x512x512 .i32)

/-- The mask the grid point works with. -/
abbrev M0 : ℕ → ℕ → ℤ := maskOf (fun a b => v4 (ix3 0 a b)) (i 0).val

/-- The smoothed row at a column away from the border. -/
theorem rowSmooth_at (r c : Fin 512) (h0 : 2 ≤ (c : ℕ)) (h1 : (c : ℕ) < 510) :
    k0_pay9 i v4 (ix2 r c) = ofZ (rowSmooth (M0 i v4) r c) := by
  pointwise [k0_pay9, k0_pay8, k0_pay7, k0_pay6, k0_pay5, k0_pay4]
  simp only [show ¬ (c : ℕ) < 2 by omega, show ¬ (c : ℕ) < 1 by omega, show (c : ℕ) < 510 by omega,
    show (c : ℕ) < 511 by omega, dite_true, dite_false]
  simp only [mask_at, lit_four_bf16, lit_six_bf16, ofZ_add, ofZ_sub, four_mul_ofZ, six_mul_ofZ, rowSmooth,
    Nat.add_comm 2, Nat.add_comm 1]

/-- The row's second difference at a column away from the border. -/
theorem rowSecond_at (r c : Fin 512) (h0 : 2 ≤ (c : ℕ)) (h1 : (c : ℕ) < 510) :
    k0_pay10 i v4 (ix2 r c) = ofZ (rowSecond (M0 i v4) r c) := by
  pointwise [k0_pay10, k0_pay8, k0_pay7, k0_pay6, k0_pay5, k0_pay4]
  simp only [show ¬ (c : ℕ) < 2 by omega, show ¬ (c : ℕ) < 1 by omega, show (c : ℕ) < 510 by omega,
    show (c : ℕ) < 511 by omega, dite_true, dite_false]
  simp only [mask_at, lit_two_bf16, ofZ_add, ofZ_sub, two_mul_ofZ, rowSecond, Nat.add_comm 2, Nat.add_comm 1]

/-- The row's smoothed first difference at a column away from the border. -/
theorem rowFirst_at (r c : Fin 512) (h0 : 2 ≤ (c : ℕ)) (h1 : (c : ℕ) < 510) :
    k0_pay11 i v4 (ix2 r c) = ofZ (rowFirst (M0 i v4) r c) := by
  pointwise [k0_pay11, k0_pay8, k0_pay7, k0_pay6, k0_pay5, k0_pay4]
  simp only [show ¬ (c : ℕ) < 2 by omega, show ¬ (c : ℕ) < 1 by omega, show (c : ℕ) < 510 by omega,
    show (c : ℕ) < 511 by omega, dite_true, dite_false]
  simp only [mask_at, lit_two_bf16, ofZ_add, ofZ_sub, two_mul_ofZ, rowFirst, Nat.add_comm 2, Nat.add_comm 1]

/-- The slope of integer operands. -/
theorem div_ofZ (n d : ℤ) : Ideal.div (ofZ n) (ofZ d + ((1 / 131072 : ℝ) : EReal)) = ((slope n d : ℝ) : EReal) := by
  unfold ofZ slope
  rw [← EReal.coe_add, Ideal.div_coe (shifted_ne_zero d), ← EReal.coe_mul, mul_one_div]

/-- The kernel's slope at an inner pixel. -/
theorem slope_at (r c : Fin 512) (h : Inner r c) :
    k0_pay13 (k0_pay9 i v4) (k0_pay10 i v4) (k0_pay11 i v4) (k0_pay12 i v4) (ix2 r c)
      = ((edgeSlope (M0 i v4) r c : ℝ) : EReal) := by
  obtain ⟨⟨h0, h1⟩, h2, h3⟩ := h
  pointwise [k0_pay13, k0_pay12]
  simp only [show ¬ (r : ℕ) < 2 by omega, show ¬ (r : ℕ) < 1 by omega, show (r : ℕ) < 510 by omega,
    show (r : ℕ) < 511 by omega, dite_true, dite_false]
  simp only [rowSmooth_at i v4 _ c h2 h3, rowSecond_at i v4 _ c h2 h3, rowFirst_at i v4 _ c h2 h3, lit_two_bf16, lit_four_bf16, lit_six_bf16,
    lit_shift, ofZ_add, ofZ_sub, two_mul_ofZ, four_mul_ofZ, six_mul_ofZ, zero_sub_ofZ, ofZ_nonneg, Nat.add_comm 2, Nat.add_comm 1]
  rw [← apply_ite ofZ, div_ofZ]
  rfl

end stencil

section terms

/-- The kernel's image of terms: exponential over the chosen sum, times the interior mask. -/
def termImage (v1 : Img) (v3 v95 : FVec Ideal S512x512 .f32) (v97 : IVec S512x512 1) : FVec Ideal S512x512 .f32 :=
  have cst_19 : Ideal .f32 := Scalar.ofBits .f32 0x3EA65BE0#32
  have v98 : FVec Ideal S512x512 .f32 := broadcast S512x512 cst_19
  have v99 : IVec S512x512 1 := cmpf .olt v95 v98
  have v100 : IVec S512x512 1 := andi v97 v99
  have cst_20 : Ideal .f32 := Scalar.ofBits .f32 0x3FB02D48#32
  have v101 : FVec Ideal S512x512 .f32 := broadcast S512x512 cst_20
  have v102 : IVec S512x512 1 := cmpf .oge v95 v101
  have v103 : FVec Ideal S512x512 .f32 := exp v3
  have v104 : FVec Ideal S512x512 .bf16 := truncf .bf16 v103 bitsLt_bf16_f32
  have v105 : FVec Ideal S512x1 .bf16 := extractStridedSlice S512x1 ![0, 511] v104 slices_S512x512_o0_511_S512x1
  have v106 : FVec Ideal S512x511 .bf16 := extractStridedSlice S512x511 ![0, 0] v104 slices_S512x512_o0_0_S512x511
  have v107 : FVec Ideal S512x512 .bf16 := concatenate S512x512 1 [⟨S512x1, v105⟩, ⟨S512x511, v106⟩] concatenates_S512x1_S512x511_S512x512_d1
  have v108 : FVec Ideal S1x512 .bf16 := extractStridedSlice S1x512 ![511, 0] v104 slices_S512x512_o511_0_S1x512
  have v109 : FVec Ideal S511x512 .bf16 := extractStridedSlice S511x512 ![0, 0] v104 slices_S512x512_o0_0_S511x512
  have v110 : FVec Ideal S512x512 .bf16 := concatenate S512x512 0 [⟨S1x512, v108⟩, ⟨S511x512, v109⟩] concatenates_S1x512_S511x512_S512x512_d0
  have v111 : FVec Ideal S512x2 .bf16 := extractStridedSlice S512x2 ![0, 510] v104 slices_S512x512_o0_510_S512x2
  have v112 : FVec Ideal S512x510 .bf16 := extractStridedSlice S512x510 ![0, 0] v104 slices_S512x512_o0_0_S512x510
  have v113 : FVec Ideal S512x512 .bf16 := concatenate S512x512 1 [⟨S512x2, v111⟩, ⟨S512x510, v112⟩] concatenates_S512x2_S512x510_S512x512_d1
  have v114 : FVec Ideal S512x512 .bf16 := addf v113 v107
  have v115 : FVec Ideal S512x512 .bf16 := addf v114 v104
  have v116 : FVec Ideal S512x511 .bf16 := extractStridedSlice S512x511 ![0, 1] v104 slices_S512x512_o0_1_S512x511
  have v117 : FVec Ideal S512x1 .bf16 := extractStridedSlice S512x1 ![0, 0] v104 slices_S512x512_o0_0_S512x1
  have v118 : FVec Ideal S512x512 .bf16 := concatenate S512x512 1 [⟨S512x511, v116⟩, ⟨S512x1, v117⟩] concatenates_S512x511_S512x1_S512x512_d1
  have v119 : FVec Ideal S512x512 .bf16 := addf v115 v118
  have v120 : FVec Ideal S2x512 .bf16 := extractStridedSlice S2x512 ![510, 0] v104 slices_S512x512_o510_0_S2x512
  have v121 : FVec Ideal S510x512 .bf16 := extractStridedSlice S510x512 ![0, 0] v104 slices_S512x512_o0_0_S510x512
  have v122 : FVec Ideal S512x512 .bf16 := concatenate S512x512 0 [⟨S2x512, v120⟩, ⟨S510x512, v121⟩] concatenates_S2x512_S510x512_S512x512_d0
  have v123 : FVec Ideal S512x512 .bf16 := addf v122 v110
  have v124 : FVec Ideal S512x512 .bf16 := addf v123 v104
  have v125 : FVec Ideal S511x512 .bf16 := extractStridedSlice S511x512 ![1, 0] v104 slices_S512x512_o1_0_S511x512
  have v126 : FVec Ideal S1x512 .bf16 := extractStridedSlice S1x512 ![0, 0] v104 slices_S512x512_o0_0_S1x512
  have v127 : FVec Ideal S512x512 .bf16 := concatenate S512x512 0 [⟨S511x512, v125⟩, ⟨S1x512, v126⟩] concatenates_S511x512_S1x512_S512x512_d0
  have v128 : FVec Ideal S512x512 .bf16 := addf v124 v127
  have v129 : FVec Ideal S2x512 .bf16 := extractStridedSlice S2x512 ![510, 0] v104 slices_S512x512_o510_0_S2x512
  have v130 : FVec Ideal S510x512 .bf16 := extractStridedSlice S510x512 ![0, 0] v104 slices_S512x512_o0_0_S510x512
  have v131 : FVec Ideal S512x512 .bf16 := concatenate S512x512 0 [⟨S2x512, v129⟩, ⟨S510x512, v130⟩] concatenates_S2x512_S510x512_S512x512_d0
  have v132 : FVec Ideal S512x511 .bf16 := extractStridedSlice S512x511 ![0, 1] v131 slices_S512x512_o0_1_S512x511
  have v133 : FVec Ideal S512x1 .bf16 := extractStridedSlice S512x1 ![0, 0] v131 slices_S512x512_o0_0_S512x1
  have v134 : FVec Ideal S512x512 .bf16 := concatenate S512x512 1 [⟨S512x511, v132⟩, ⟨S512x1, v133⟩] concatenates_S512x511_S512x1_S512x512_d1
  have v135 : FVec Ideal S512x512 .bf16 := addf v134 v110
  have v136 : FVec Ideal S512x512 .bf16 := addf v135 v107
  have v137 : FVec Ideal S511x512 .bf16 := extractStridedSlice S511x512 ![1, 0] v104 slices_S512x512_o1_0_S511x512
  have v138 : FVec Ideal S1x512 .bf16 := extractStridedSlice S1x512 ![0, 0] v104 slices_S512x512_o0_0_S1x512
  have v139 : FVec Ideal S512x512 .bf16 := concatenate S512x512 0 [⟨S511x512, v137⟩, ⟨S1x512, v138⟩] concatenates_S511x512_S1x512_S512x512_d0
  have v140 : FVec Ideal S512x2 .bf16 := extractStridedSlice S512x2 ![0, 510] v139 slices_S512x512_o0_510_S512x2
  have v141 : FVec Ideal S512x510 .bf16 := extractStridedSlice S512x510 ![0, 0] v139 slices_S512x512_o0_0_S512x510
  have v142 : FVec Ideal S512x512 .bf16 := concatenate S512x512 1 [⟨S512x2, v140⟩, ⟨S512x510, v141⟩] concatenates_S512x2_S512x510_S512x512_d1
  have v143 : FVec Ideal S512x512 .bf16 := addf v136 v142
  have v144 : FVec Ideal S512x512 .bf16 := select v102 v128 v143
  have v145 : FVec Ideal S512x512 .bf16 := select v100 v119 v144
  have v146 : FVec Ideal S512x512 .bf16 := divf v104 v145
  have v147 : FVec Ideal S512x512 .bf16 := mulf v146 v1
  have v148 : FVec Ideal S512x512 .f32 := extf .f32 v147 bitsLt_bf16_f32
  v148

/-- The kernel's total over an image is the sum of the image of terms. -/
theorem total_eq (v1 : Img) (v3 v95 : FVec Ideal S512x512 .f32) (v97 : IVec S512x512 1) :
    k0_pay15 v1 v3 v95 v97 = ∑ r : Fin 512, ∑ c : Fin 512, termImage v1 v3 v95 v97 (ix2 r c) := by
  have e : k0_pay15 v1 v3 v95 v97 = extractAt ![0, 0, 0] (shapeCast S1x1x1 (multiReduction (F := Ideal) .add [1, 2] S1
    (shapeCast S1x512x512 (termImage v1 v3 v95 v97) shapeCasts_S512x512_S1x512x512) 0x00000000#32
    reduces_S1x512x512_S1 (.inl rfl) rfl) shapeCasts_S1_S1x1x1) inpos_S1x1x1_p0_0_0 := rfl
  rw [e]
  pointwise

/-- The comparisons of the kernel's slope with the negated upper threshold. -/
abbrev aboveNeg (v95 : FVec Ideal S512x512 .f32) : IVec S512x512 1 :=
  cmpf .oge v95 (broadcast S512x512 (Scalar.ofBits .f32 0xBFB02D48#32))

/-- Off the interior the kernel's term is multiplied by zero. -/
theorem termImage_border (v1 : Img) (v3 v95 : FVec Ideal S512x512 .f32) (v97 : IVec S512x512 1) (r c : Fin 512)
    (h : v1 (ix2 r c) = 0) : termImage v1 v3 v95 v97 (ix2 r c) = 0 := by
  unfold termImage
  have e : ∀ a b : Img, mulf a b (ix2 r c) = a (ix2 r c) * b (ix2 r c) := fun _ _ => rfl
  show mulf _ v1 (ix2 r c) = 0
  rw [e, h, mul_zero]

/-- The kernel's term at an inner pixel. -/
theorem termImage_inner (v1 : Img) (v3 v95 : FVec Ideal S512x512 .f32) (M : ℕ → ℕ → ℤ) (r c : Fin 512) (h : Inner r c)
    (h1 : v1 (ix2 r c) = 1) (h95 : v95 (ix2 r c) = ((edgeSlope M r c : ℝ) : EReal)) :
    termImage v1 v3 v95 (aboveNeg v95) (ix2 r c) = term (expOf fun a b => v3 (ix2 a b)) M r c := by
  obtain ⟨⟨h0, h1'⟩, h2, h3⟩ := h
  pointwise [termImage]
  simp only [show ¬ (r : ℕ) < 2 by omega, show ¬ (r : ℕ) < 1 by omega, show (r : ℕ) < 510 by omega,
    show (r : ℕ) < 511 by omega, show ¬ (c : ℕ) < 2 by omega, show ¬ (c : ℕ) < 1 by omega, show (c : ℕ) < 510 by omega,
    show (c : ℕ) < 511 by omega, dite_true, dite_false]
  rw [h95, lit_low, lit_high, lit_neg_high, h1, mul_one]
  simp only [EReal.coe_le_coe_iff, EReal.coe_lt_coe_iff]
  unfold term sumAcross sumDown sumSlant
  simp only [expOf_at _ (r - 2) (c + 1) (by omega) (by omega), expOf_at _ (r - 1) c (by omega) (by omega),
    expOf_at _ r (c - 1) (by omega) (by omega), expOf_at _ (r + 1) (c - 2) (by omega) (by omega),
    expOf_at _ r (c - 2) (by omega) (by omega), expOf_at _ r (c + 1) (by omega) (by omega),
    expOf_at _ (r - 2) c (by omega) (by omega), expOf_at _ (r + 1) c (by omega) (by omega),
    expOf_at _ r c r.2 c.2, Nat.add_comm 1]
  by_cases ha : -highT ≤ edgeSlope M r c <;> by_cases hb : edgeSlope M r c < lowT <;>
    simp only [ha, hb, decide_true, decide_false, and_true, and_false, if_true, if_false] <;> rfl

end terms

end Cert.Proof

end
-- ==== Proof.KernelTile.lean ====
module

public import proofs.«01_k».proof.Proof.KernelPixel

@[expose] public section

/-! # The number the kernel's body leaves at one grid point -/

set_option maxRecDepth 16384

noncomputable section

namespace Cert.Proof

open Idealize.ShloMosaic Idealize.ShloMosaic.TcCoe Idealize.SL.Sem
open Cert.KernelIdeal Cert.KernelIdeal.Gen

local notation "Img" => FVec Ideal S512x512 FTy.bf16

/-- The kernel's total over one image is that image's loss, when the mask it multiplies by is one inside and zero on
    the border. -/
theorem total_image (i : grid0.Coords) (v1 : Img) (v3 : FVec Ideal S512x512 .f32) (l : Vec Ideal S1x512x512 .i32)
    (hv : ∀ r c : Fin 512, v1 (ix2 r c) = if Inner r c then 1 else 0) :
    k0_pay15 v1 v3 (k0_pay13 (k0_pay9 i l) (k0_pay10 i l) (k0_pay11 i l) (k0_pay12 i l))
        (aboveNeg (k0_pay13 (k0_pay9 i l) (k0_pay10 i l) (k0_pay11 i l) (k0_pay12 i l)))
      = imageLoss (expOf fun a b => v3 (ix2 a b)) (M0 i l) := by
  rw [total_eq]
  refine Finset.sum_congr rfl fun r _ => Finset.sum_congr rfl fun c _ => ?_
  by_cases h : Inner r c
  · rw [if_pos h]
    exact termImage_inner v1 v3 _ _ r c h ((hv r c).trans (if_pos h)) (slope_at i l r c h)
  · rw [if_neg h]
    exact termImage_border v1 v3 _ _ r c ((hv r c).trans (if_neg h))

/-- The second image goes through the same computation as the first. -/
theorem second_image (i : grid0.Coords) (v1 : Img) (s : Ideal .f32) (v3 : FVec Ideal S512x512 .f32)
    (l : Vec Ideal S1x512x512 .i32) (y : S1x1x1.Idx) :
    k0_pay31 v1 s v3
        (k0_pay29 (k0_pay23 (BitVec.ofNat 32 (i 0).val) l) (k0_pay24 (BitVec.ofNat 32 (i 0).val) l)
          (k0_pay25 (BitVec.ofNat 32 (i 0).val) l) (k0_pay26 (BitVec.ofNat 32 (i 0).val) l)
          (k0_pay27 (BitVec.ofNat 32 (i 0).val) l))
        (k0_pay30 (k0_pay23 (BitVec.ofNat 32 (i 0).val) l) (k0_pay24 (BitVec.ofNat 32 (i 0).val) l)
          (k0_pay25 (BitVec.ofNat 32 (i 0).val) l) (k0_pay26 (BitVec.ofNat 32 (i 0).val) l)
          (k0_pay27 (BitVec.ofNat 32 (i 0).val) l)) y
      = s + k0_pay15 v1 v3 (k0_pay13 (k0_pay9 i l) (k0_pay10 i l) (k0_pay11 i l) (k0_pay12 i l))
        (aboveNeg (k0_pay13 (k0_pay9 i l) (k0_pay10 i l) (k0_pay11 i l) (k0_pay12 i l))) := rfl

/-- The body's result: the losses of the two images for the grid point's class. -/
theorem tile_value (i : grid0.Coords) (v1 : Img) (p0 p1 : Vec Ideal S1x1x512x512 .f32) (l0 l1 : Vec Ideal S1x512x512 .i32)
    (hv : ∀ r c : Fin 512, v1 (ix2 r c) = if Inner r c then 1 else 0) (y : S1x1x1.Idx) :
    k0_pay31 v1 (k0_pay15 v1 (k0_pay2 p0) (k0_pay13 (k0_pay9 i l0) (k0_pay10 i l0) (k0_pay11 i l0) (k0_pay12 i l0))
        (k0_pay14 (k0_pay9 i l0) (k0_pay10 i l0) (k0_pay11 i l0) (k0_pay12 i l0))) (k0_pay16 p1)
        (k0_pay29 (k0_pay23 (BitVec.ofNat 32 (i 0).val) l1) (k0_pay24 (BitVec.ofNat 32 (i 0).val) l1)
          (k0_pay25 (BitVec.ofNat 32 (i 0).val) l1) (k0_pay26 (BitVec.ofNat 32 (i 0).val) l1)
          (k0_pay27 (BitVec.ofNat 32 (i 0).val) l1))
        (k0_pay30 (k0_pay23 (BitVec.ofNat 32 (i 0).val) l1) (k0_pay24 (BitVec.ofNat 32 (i 0).val) l1)
          (k0_pay25 (BitVec.ofNat 32 (i 0).val) l1) (k0_pay26 (BitVec.ofNat 32 (i 0).val) l1)
          (k0_pay27 (BitVec.ofNat 32 (i 0).val) l1)) y
      = imageLoss (expOf fun a b => p0 (ix4 0 0 a b)) (maskOf (fun a b => l0 (ix3 0 a b)) (i 0).val)
        + imageLoss (expOf fun a b => p1 (ix4 0 0 a b)) (maskOf (fun a b => l1 (ix3 0 a b)) (i 0).val) := by
  have e0 : ∀ a b : Fin 512, k0_pay2 p0 (ix2 a b) = p0 (ix4 0 0 a b) := fun a b => by pointwise [k0_pay2]
  have e1 : ∀ a b : Fin 512, k0_pay16 p1 (ix2 a b) = p1 (ix4 0 0 a b) := fun a b => by pointwise [k0_pay16]
  refine (second_image i v1 _ _ l1 y).trans ?_
  refine congrArg₂ (· + ·) ((total_image i v1 _ l0 hv).trans ?_) ((total_image i v1 _ l1 hv).trans ?_)
  · simp only [e0]
  · simp only [e1]

end Cert.Proof

end
-- ==== Proof.KernelValue.lean ====
module

public import proofs.«01_k».proof.Proof.KernelTile
public import proofs.«01_k».proof.Proof.Interior
public import proofs.«01_k».proof.Proof.Gen.KernelIdeal.Frame
public import Idealize.ShloMosaic.Lib.Pipeline.ValueKit
public import Idealize.ShloMosaic.Lib.Pointwise

@[expose] public section

/-! # The kernel's result -/

set_option maxRecDepth 16384

noncomputable section

namespace Cert.Proof

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ)

/-- The interior mask as the host's operations write it. -/
abbrev interior : FVec Ideal S512x512 .bf16 :=
  Host.scatter (boxDims Cert.KernelIdeal.Facts₀.scatter_S512x512_S2_S508x508_01_n_01_0_wf) (fun _ b => b)
    (broadcastInDim S512x512 ![] bcast_S_S512x512 (constant (F := Ideal) S_ .bf16 0x0000#16))
    (concatenate S2 0 [⟨S1, broadcastInDim S1 ![] bcast_S_S1 (constantI S_ 32 2#32)⟩,
      ⟨S1, broadcastInDim S1 ![] bcast_S_S1 (constantI S_ 32 2#32)⟩] concatenates_S1_S1_S2_d0)
    (broadcastInDim S508x508 ![] bcast_S_S508x508 (constant (F := Ideal) S_ .bf16 0x3F80#16))

/-- The literal one. -/
theorem lit_one_bf16 : Ideal.ofBits .bf16 0x3F80#16 = 1 := by
  simp [Ideal.ofBits, Ideal.ieee, -EReal.coe_mul]; norm_num

/-- The mask is one inside and zero on the border. -/
theorem interior_at (r s : Fin 512) : interior (ix2 r s) = if Inner r s then 1 else 0 := by
  refine (box_at _ _ _ (fun q => ?_) _ 1 (fun k => ?_) r s).trans ?_
  · pointwise
    exact ite_self _
  · exact lit_one_bf16
  · have z : (broadcastInDim S512x512 ![] bcast_S_S512x512 (constant (F := Ideal) S_ .bf16 0x0000#16)) (ix2 r s) = 0 := by
      pointwise
    rw [z]

/-- The interior mask the host hands the kernel. -/
theorem V_interior (c : Dev nD) : (V m c main_v5 : FVec Ideal S512x512 .bf16) = interior := by
  have e : (V m c main_v5 : FVec Ideal S512x512 .bf16) = Host.scatter (boxDims Cert.KernelIdeal.Facts₀.scatter_S512x512_S2_S508x508_01_n_01_0_wf) (fun _ b => b)
    (broadcastInDim S512x512 ![] bcast_S_S512x512 (constant (F := Ideal) S_ .bf16 0x0000#16))
    (concatenate S2 0 [⟨S1, broadcastInDim S1 ![] bcast_S_S1 (constantI S_ 32 2#32)⟩,
      ⟨S1, broadcastInDim S1 ![] bcast_S_S1 (constantI S_ 32 2#32)⟩] concatenates_S1_S1_S2_d0)
    (broadcastInDim S508x508 ![] bcast_S_S508x508 (constant (F := Ideal) S_ .bf16 0x3F80#16)) := by
    unfold V V0 hostOps0
    simp only [List.flatten_cons, List.flatten_nil, List.append_nil]
    after_results
    rfl
  exact e

/-- Where the windows' blocks lie. -/
theorem idx0 : ∀ t : Fin cfg0.N, win0_0.index t = ![0, (grid0.coords t 0).val, 0, 0] ∧ win0_1.index t = ![0, 0, 0]
    ∧ win0_2.index t = ![0, 0] ∧ win0_3.index t = ![(grid0.coords t 0).val, 0, 0] :=
  (by decide +kernel : ∀ t : Fin grid0.N, _)

/-- The loss of one class: both images together. -/
def classLoss (p : Vec Ideal S2x19x512x512 .f32) (l : Vec Ideal S2x512x512 .i32) (k : Fin 19) : EReal :=
  imageLoss (expOf fun a b => p (ix4 0 k a b)) (maskOf (fun a b => l (ix3 0 a b)) k.val)
    + imageLoss (expOf fun a b => p (ix4 1 k a b)) (maskOf (fun a b => l (ix3 1 a b)) k.val)

/-- The mask's block is the mask. -/
theorem mask_block (c : Dev nD) (t : Fin cfg0.N) (r s : Fin 512) :
    (k0_pay1 (View.ld (iblk m c 2 t) r0_0) : FVec Ideal S512x512 .bf16) (ix2 r s) = (V m c main_v5 : FVec Ideal S512x512 .bf16) (ix2 r s) := by
  pointwise [k0_pay1]
  have e : ∀ G : Buf (Elt Ideal) ((c : Thread nD τ).loc main_v5),
      ((cfg0.win 2).blk t).view.read (Elt Ideal) G (ix2 r s) = G (ix2 r s) := fun G => by
    blk_ext [idx0 t]
  exact e (V m c main_v5)

/-- The array the kernel leaves: the classes' losses. -/
theorem classes (c : Dev nD) : ((dats m 0 c).arrAt 3 (cfgs 0).N : Vec Ideal S19x1x1 .f32)
    = fun j => classLoss (m ((c : Thread nD τ).loc main_arg0)) (m ((c : Thread nD τ).loc main_arg1)) (j 0) := by
  refine (dats m 0 c).arrAt_eq_of_covers 3 _ (by decide +kernel) fun t _ y => ?_
  blk_simp
  rw [after0_3]
  frame_out
  refine (tile_value (grid0.coords t) _ _ _ _ _ (fun r s => ?_) y).trans ?_
  · refine Eq.trans ?_ (interior_at r s)
    refine Eq.trans ?_ (congrFun (V_interior m c) (ix2 r s))
    exact mask_block m c t r s
  · unfold classLoss
    have hk : (grid0.coords t 0).val = (((View.whole main_v6).slice (win0_3.rect t)).emb y 0).val := by
      blk_point [idx0 t]
    have h0 : ∀ a b, View.ld (iblk m c 0 t) r0_1 (ix4 0 0 a b)
        = m ((c : Thread nD τ).loc main_arg0) (ix4 0 (((View.whole main_v6).slice (win0_3.rect t)).emb y 0) a b) := fun a b => by
      pointwise
      blk_ext [iblk, V, idx0 t]
    have h1 : ∀ a b, View.ld (iblk m c 0 t) r0_3 (ix4 0 0 a b)
        = m ((c : Thread nD τ).loc main_arg0) (ix4 1 (((View.whole main_v6).slice (win0_3.rect t)).emb y 0) a b) := fun a b => by
      pointwise
      blk_ext [iblk, V, idx0 t]
    have h2 : ∀ a b, View.ld (iblk m c 1 t) r0_2 (ix3 0 a b)
        = m ((c : Thread nD τ).loc main_arg1) (ix3 0 a b) := fun a b => by
      pointwise
      blk_ext [iblk, V, idx0 t]
    have h3 : ∀ a b, View.ld (iblk m c 1 t) r0_4 (ix3 0 a b)
        = m ((c : Thread nD τ).loc main_arg1) (ix3 1 a b) := fun a b => by
      pointwise
      blk_ext [iblk, V, idx0 t]
    simp only [h0, h1, h2, h3, hk]

end Cert.Proof

end
-- ==== Proof.KernelRun.lean ====
module

public import proofs.«01_k».proof.Proof.KernelValue

@[expose] public section

/-! # The kernel program's run and its result -/

set_option maxRecDepth 16384

noncomputable section

namespace Cert.Proof

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ)

/-- The loss over all classes. -/
def totalLoss (p : Vec Ideal S2x19x512x512 .f32) (l : Vec Ideal S2x512x512 .i32) : EReal := ∑ k : Fin 19, classLoss p l k

/-- Adding up the nineteen class losses on the host gives the total. -/
theorem host_sum (f : Fin 19 → EReal) (j : S_.Idx) :
    (Host.reduceAdd (fun i : S19x1x1.Idx => f (i 0) : FVec Ideal S19x1x1 .f32) (constant (F := Ideal) S_ .f32 0x00000000#32)
      reducesTo_S19x1x1_S_d0_1_2 h_S_ : FVec Ideal S_ .f32) j = ∑ k : Fin 19, f k := by
  pointwise
  simp

/-- The result buffer after the host's closing sum. -/
theorem tail_value (c : Dev nD) : (Pipeline.afterTail₀ cfgs (dats m) 0 (V0 m) [hostOps1] c main_v7 : FVec Ideal S_ .f32)
    = fun _ => totalLoss (m ((c : Thread nD τ).loc main_arg0)) (m ((c : Thread nD τ).loc main_arg1)) := by
  unfold Pipeline.afterTail₀ hostOps1
  simp only [List.flatten_cons, List.flatten_nil, List.append_nil]
  after_results
  have e := (Pipeline.withArrays_arr spec0 (by decide) c (V0 m c) (fun w => (dats m 0 c).arrAt w (cfgs 0).N) 3).trans (classes m c)
  funext j
  refine Eq.trans ?_ (host_sum (classLoss (m ((c : Thread nD τ).loc main_arg0)) (m ((c : Thread nD τ).loc main_arg1))) j)
  exact congrArg (fun x : FVec Ideal S19x1x1 .f32 => (Host.reduceAdd x (constant (F := Ideal) S_ .f32 0x00000000#32)
      reducesTo_S19x1x1_S_d0_1_2 h_S_ : FVec Ideal S_ .f32) j) e

/-- The kernel program ends with the total loss in its result and its arguments unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v7)
        = (fun _ => totalLoss (m ((c.tc : Thread nD τ).loc main_arg0)) (m ((c.tc : Thread nD τ).loc main_arg1)) : FVec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).2 main_v7 (by decide)).trans (tail_value m c), h.2 c⟩)
    (θ_run_and (run_main m ρ) (unchanged m ρ))

end Cert.Proof

end
-- ==== Proof.RefRun.lean ====
module

public import proofs.«01_k».proof.Proof.RefValue
public import proofs.«01_k».proof.Proof.KernelRun

@[expose] public section

/-! # The reference program's run and its result -/

set_option maxRecDepth 16384

noncomputable section

namespace Cert.Proof.Ref

open Idealize.ShloMosaic Idealize.ShloMosaic.TcCoe Idealize.SL.Sem
open Idealize.ShloMosaic.StableHlo
open Cert.ReferenceIdeal Cert.ReferenceIdeal.Gen Cert.ReferenceIdeal.Value

variable (V : Valuation τ sig (Elt Ideal))

/-- The reference's sum of kept terms is the total loss. -/
theorem loss_value (j : S_.Idx) :
    (Host.reduceAdd (kept (choose (res_main_v179 V) (res_main_v180 V) (res_main_v181 V)))
      (constant (F := Ideal) S_ .f32 0x00000000#32) reducesTo_S2x19x512x512_S_d0_1_2_3 h_S_ : FVec Ideal S_ .f32) j
      = totalLoss (logits V) (labels V) := by
  rw [sum_all]
  have e : ∀ (b : Fin 2) (k : Fin 19), (∑ r : Fin 512, ∑ s : Fin 512,
      kept (choose (res_main_v179 V) (res_main_v180 V) (res_main_v181 V)) (ix4 b k r s)) = imageLoss (expAt V b k) (maskAt V b k) := by
    intro b k
    refine Finset.sum_congr rfl fun r _ => Finset.sum_congr rfl fun s _ => ?_
    rw [kept_at]
    by_cases h : Inner r s
    · rw [if_pos h, if_pos h, choose_at V b k r s h]
    · rw [if_neg h, if_neg h]
  simp only [e]
  rw [Fin.sum_univ_two, ← Finset.sum_add_distrib]
  rfl

/-- The reference program ends with the total loss in its result and its arguments unchanged. -/
theorem ref_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v219)
        = (fun _ => totalLoss (m ((c.tc : Thread nD τ).loc main_arg0)) (m ((c.tc : Thread nD τ).loc main_arg1)) : FVec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (funext fun j => loss_value (launchContents m c) j), (h c).2⟩) (run m ρ)

/-- The reference program keeps its arguments and leaves every counter at zero. -/
theorem ref_frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems rfl r.2⟩) (run m ρ)

end Cert.Proof.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefRun
public import Idealize.ShloMosaic.Adequacy
public import Idealize.ShloMosaic.Init

@[expose] public section

noncomputable section

namespace Cert.Proof

open Idealize.ShloMosaic Idealize.SL.Sem Cert.Kernel

/-- The kernel keeps its arguments and its counters, so do its idealization and the reference; and at the exact numbers
    the kernel and the reference, started from the same arguments, end with the same loss. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Ref.ref_frame m ρ, trivial,
  fun m g m' g' _ agree => ⟨_, kernel_run m g, (θ_run _ _ _).mono (fun _ h c => ⟨(h c).1.trans (by
    rw [(agree c).1, (agree c).2]), (h c).2⟩) (Ref.ref_run m' g')⟩⟩

end Cert.Proof

end
